-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_d" .f32 0x394CCCCD#32 ((1 / 5120 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x5120 : Shape := ⟨3, ![2, 128, 5120]⟩
abbrev S2x128 : Shape := ⟨2, ![2, 128]⟩
abbrev S5120 : Shape := ⟨1, ![5120]⟩
abbrev S5120x8960 : Shape := ⟨2, ![5120, 8960]⟩
abbrev S40x70 : Shape := ⟨2, ![40, 70]⟩
abbrev S2x128x8960 : Shape := ⟨3, ![2, 128, 8960]⟩
abbrev S256x5120 : Shape := ⟨2, ![256, 5120]⟩
abbrev S1x5120 : Shape := ⟨2, ![1, 5120]⟩
abbrev S256x8960 : Shape := ⟨2, ![256, 8960]⟩
abbrev S256x128 : Shape := ⟨2, ![256, 128]⟩
abbrev S1x128 : Shape := ⟨2, ![1, 128]⟩
abbrev S128x128 : Shape := ⟨2, ![128, 128]⟩
abbrev S256x256 : Shape := ⟨2, ![256, 256]⟩
abbrev S1x256 : Shape := ⟨2, ![1, 256]⟩
abbrev S1x1 : Shape := ⟨2, ![1, 1]⟩
abbrev S128x256 : Shape := ⟨2, ![128, 256]⟩
abbrev S256 : Shape := ⟨1, ![256]⟩
abbrev S256x1 : Shape := ⟨2, ![256, 1]⟩

abbrev nBuf : Space → Nat
  | .hbm => 13
  | .vmem => 15
  | .smem => 1
  | _ => 0

abbrev bufTy : (tb : Table) → Fin (tcTables nBuf tb) → BufTy
  | .hbm, ⟨0, _⟩ => ⟨S2x128x5120, .fp8e4m3⟩
  | .hbm, ⟨1, _⟩ => ⟨S2x128, .f32⟩
  | .hbm, ⟨2, _⟩ => ⟨S2x128, .f32⟩
  | .hbm, ⟨3, _⟩ => ⟨S5120, .f32⟩
  | .hbm, ⟨4, _⟩ => ⟨S5120x8960, .fp8e4m3⟩
  | .hbm, ⟨5, _⟩ => ⟨S40x70, .f32⟩
  | .hbm, ⟨6, _⟩ => ⟨S2x128x8960, .bf16⟩
  | .hbm, ⟨7, _⟩ => ⟨S256x5120, .fp8e4m3⟩
  | .hbm, ⟨8, _⟩ => ⟨S1x5120, .f32⟩
  | .hbm, ⟨9, _⟩ => ⟨S256x8960, .bf16⟩
  | .hbm, ⟨10, _⟩ => ⟨S256x5120, .bf16⟩
  | .hbm, ⟨11, _⟩ => ⟨S5120x8960, .f32⟩
  | .hbm, ⟨12, _⟩ => ⟨S1x5120, .f32⟩
  | .local _ .vmem, ⟨0, _⟩ => ⟨S256x5120, .fp8e4m3⟩
  | .local _ .vmem, ⟨1, _⟩ => ⟨S2x128, .f32⟩
  | .local _ .vmem, ⟨2, _⟩ => ⟨S2x128, .f32⟩
  | .local _ .vmem, ⟨3, _⟩ => ⟨S1x5120, .f32⟩
  | .local _ .vmem, ⟨4, _⟩ => ⟨S256x8960, .fp8e4m3⟩
  | .local _ .vmem, ⟨5, _⟩ => ⟨S256x8960, .fp8e4m3⟩
  | .local _ .vmem, ⟨6, _⟩ => ⟨S256x8960, .bf16⟩
  | .local _ .vmem, ⟨7, _⟩ => ⟨S256x5120, .bf16⟩
  | .local _ .vmem, ⟨8, _⟩ => ⟨S256x8960, .f32⟩
  | .local _ .vmem, ⟨9, _⟩ => ⟨S256x8960, .f32⟩
  | .local _ .vmem, ⟨10, _⟩ => ⟨S1x5120, .f32⟩
  | .local _ .vmem, ⟨11, _⟩ => ⟨S256x128, .f32⟩
  | .local _ .vmem, ⟨12, _⟩ => ⟨S256x128, .f32⟩
  | .local _ .vmem, ⟨13, _⟩ => ⟨S256x5120, .f32⟩
  | .local _ .vmem, ⟨14, _⟩ => ⟨S256x128, .f32⟩
  | .local _ .smem, ⟨0, _⟩ => ⟨S40x70, .f32⟩
  | _, _ => ⟨S2x128x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_stg5_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11

abbrev nD : Nat := 1
abbrev τ : Topo := Topo.v7x

variable {F : FTy → Type} [FloatOps F]

abbrev grid0 : Pipeline.Grid := ⟨1, ![20], ![false]⟩

def k0_mult1 (i : grid0.Coords) : BitVec 32 :=
  let arg0 : BitVec 32 := BitVec.ofNat 32 (i 0).val
  let c256_i32 : BitVec 32 := 256#32
  let v3 : BitVec 32 := Scalar.muli arg0 c256_i32
  v3
def k0_off1 (i : grid0.Coords) : Fin 2 → Nat :=
  let c0 : Index := 0#32
  let arg0 : BitVec 32 := BitVec.ofNat 32 (i 0).val
  let c256_i32 : BitVec 32 := 256#32
  let v3 : BitVec 32 := Scalar.muli arg0 c256_i32
  let v4 : BitVec 32 := v3
  let v5 : Index := Scalar.indexCast v4
  ![0, v5.toNat]
def k0_off2 (i : grid0.Coords) : Fin 2 → Nat :=
  let c0_5 : Index := 0#32
  let arg0 : BitVec 32 := BitVec.ofNat 32 (i 0).val
  let c256_i32 : BitVec 32 := 256#32
  let v3 : BitVec 32 := Scalar.muli arg0 c256_i32
  let v4 : BitVec 32 := v3
  let v15 : Index := Scalar.indexCast v4
  ![0, v15.toNat]
def k0_off3 (i : grid0.Coords) (c0_i32_11 : BitVec 32) : Fin 2 → Nat :=
  let arg0 : BitVec 32 := BitVec.ofNat 32 (i 0).val
  let c2_i32 : BitVec 32 := 2#32
  let v27 : BitVec 32 := Scalar.muli arg0 c2_i32
  let v28 : BitVec 32 := Scalar.addi v27 c0_i32_11
  let v29 : Index := Scalar.indexCast v28
  let c0_12 : Index := 0#32
  ![v29.toNat, 0]
def k0_off4 (i : grid0.Coords) (c0_i32_16 : BitVec 32) : Fin 2 → Nat :=
  let arg0 : BitVec 32 := BitVec.ofNat 32 (i 0).val
  let c2_i32_15 : BitVec 32 := 2#32
  let v36 : BitVec 32 := Scalar.muli arg0 c2_i32_15
  let v37 : BitVec 32 := Scalar.addi v36 c0_i32_16
  let v38 : Index := Scalar.indexCast v37
  let c1 : Index := 1#32
  ![v38.toNat, 1]
def k0_off5 (i : grid0.Coords) (c0_i32_33 : BitVec 32) : Fin 2 → Nat :=
  let arg0 : BitVec 32 := BitVec.ofNat 32 (i 0).val
  let c2_i32_32 : BitVec 32 := 2#32
  let v72 : BitVec 32 := Scalar.muli arg0 c2_i32_32
  let v73 : BitVec 32 := Scalar.addi v72 c0_i32_33
  let v74 : Index := Scalar.indexCast v73
  let c2 : Index := 2#32
  ![v74.toNat, 2]
def k0_off6 (i : grid0.Coords) (c0_i32_37 : BitVec 32) : Fin 2 → Nat :=
  let arg0 : BitVec 32 := BitVec.ofNat 32 (i 0).val
  let c2_i32_36 : BitVec 32 := 2#32
  let v81 : BitVec 32 := Scalar.muli arg0 c2_i32_36
  let v82 : BitVec 32 := Scalar.addi v81 c0_i32_37
  let v83 : Index := Scalar.indexCast v82
  let c3 : Index := 3#32
  ![v83.toNat, 3]
def k0_off7 (i : grid0.Coords) (c0_i32_55 : BitVec 32) : Fin 2 → Nat :=
  let arg0 : BitVec 32 := BitVec.ofNat 32 (i 0).val
  let c2_i32_54 : BitVec 32 := 2#32
  let v117 : BitVec 32 := Scalar.muli arg0 c2_i32_54
  let v118 : BitVec 32 := Scalar.addi v117 c0_i32_55
  let v119 : Index := Scalar.indexCast v118
  let c4 : Index := 4#32
  ![v119.toNat, 4]
def k0_off8 (i : grid0.Coords) (c0_i32_59 : BitVec 32) : Fin 2 → Nat :=
  let arg0 : BitVec 32 := BitVec.ofNat 32 (i 0).val
  let c2_i32_58 : BitVec 32 := 2#32
  let v126 : BitVec 32 := Scalar.muli arg0 c2_i32_58
  let v127 : BitVec 32 := Scalar.addi v126 c0_i32_59
  let v128 : Index := Scalar.indexCast v127
  let c5 : Index := 5#32
  ![v128.toNat, 5]
def k0_off9 (i : grid0.Coords) (c0_i32_77 : BitVec 32) : Fin 2 → Nat :=
  let arg0 : BitVec 32 := BitVec.ofNat 32 (i 0).val
  let c2_i32_76 : BitVec 32 := 2#32
  let v162 : BitVec 32 := Scalar.muli arg0 c2_i32_76
  let v163 : BitVec 32 := Scalar.addi v162 c0_i32_77
  let v164 : Index := Scalar.indexCast v163
  let c6 : Index := 6#32
  ![v164.toNat, 6]
def k0_off10 (i : grid0.Coords) (c0_i32_81 : BitVec 32) : Fin 2 → Nat :=
  let arg0 : BitVec 32 := BitVec.ofNat 32 (i 0).val
  let c2_i32_80 : BitVec 32 := 2#32
  let v171 : BitVec 32 := Scalar.muli arg0 c2_i32_80
  let v172 : BitVec 32 := Scalar.addi v171 c0_i32_81
  let v173 : Index := Scalar.indexCast v172
  let c7 : Index := 7#32
  ![v173.toNat, 7]
def k0_off11 (i : grid0.Coords) (c0_i32_99 : BitVec 32) : Fin 2 → Nat :=
  let arg0 : BitVec 32 := BitVec.ofNat 32 (i 0).val
  let c2_i32_98 : BitVec 32 := 2#32
  let v207 : BitVec 32 := Scalar.muli arg0 c2_i32_98
  let v208 : BitVec 32 := Scalar.addi v207 c0_i32_99
  let v209 : Index := Scalar.indexCast v208
  let c8 : Index := 8#32
  ![v209.toNat, 8]
def k0_off12 (i : grid0.Coords) (c0_i32_103 : BitVec 32) : Fin 2 → Nat :=
  let arg0 : BitVec 32 := BitVec.ofNat 32 (i 0).val
  let c2_i32_102 : BitVec 32 := 2#32
  let v216 : BitVec 32 := Scalar.muli arg0 c2_i32_102
  let v217 : BitVec 32 := Scalar.addi v216 c0_i32_103
  let v218 : Index := Scalar.indexCast v217
  let c9 : Index := 9#32
  ![v218.toNat, 9]
def k0_off13 (i : grid0.Coords) (c0_i32_121 : BitVec 32) : Fin 2 → Nat :=
  let arg0 : BitVec 32 := BitVec.ofNat 32 (i 0).val
  let c2_i32_120 : BitVec 32 := 2#32
  let v252 : BitVec 32 := Scalar.muli arg0 c2_i32_120
  let v253 : BitVec 32 := Scalar.addi v252 c0_i32_121
  let v254 : Index := Scalar.indexCast v253
  let c10 : Index := 10#32
  ![v254.toNat, 10]
def k0_off14 (i : grid0.Coords) (c0_i32_125 : BitVec 32) : Fin 2 → Nat :=
  let arg0 : BitVec 32 := BitVec.ofNat 32 (i 0).val
  let c2_i32_124 : BitVec 32 := 2#32
  let v261 : BitVec 32 := Scalar.muli arg0 c2_i32_124
  let v262 : BitVec 32 := Scalar.addi v261 c0_i32_125
  let v263 : Index := Scalar.indexCast v262
  let c11 : Index := 11#32
  ![v263.toNat, 11]
def k0_off15 (i : grid0.Coords) (c0_i32_143 : BitVec 32) : Fin 2 → Nat :=
  let arg0 : BitVec 32 := BitVec.ofNat 32 (i 0).val
  let c2_i32_142 : BitVec 32 := 2#32
  let v297 : BitVec 32 := Scalar.muli arg0 c2_i32_142
  let v298 : BitVec 32 := Scalar.addi v297 c0_i32_143
  let v299 : Index := Scalar.indexCast v298
  let c12 : Index := 12#32
  ![v299.toNat, 12]
def k0_off16 (i : grid0.Coords) (c0_i32_147 : BitVec 32) : Fin 2 → Nat :=
  let arg0 : BitVec 32 := BitVec.ofNat 32 (i 0).val
  let c2_i32_146 : BitVec 32 := 2#32
  let v306 : BitVec 32 := Scalar.muli arg0 c2_i32_146
  let v307 : BitVec 32 := Scalar.addi v306 c0_i32_147
  let v308 : Index := Scalar.indexCast v307
  let c13 : Index := 13#32
  ![v308.toNat, 13]
def k0_off17 (i : grid0.Coords) (c0_i32_165 : BitVec 32) : Fin 2 → Nat :=
  let arg0 : BitVec 32 := BitVec.ofNat 32 (i 0).val
  let c2_i32_164 : BitVec 32 := 2#32
  let v342 : BitVec 32 := Scalar.muli arg0 c2_i32_164
  let v343 : BitVec 32 := Scalar.addi v342 c0_i32_165
  let v344 : Index := Scalar.indexCast v343
  let c14 : Index := 14#32
  ![v344.toNat, 14]
def k0_off18 (i : grid0.Coords) (c0_i32_169 : BitVec 32) : Fin 2 → Nat :=
  let arg0 : BitVec 32 := BitVec.ofNat 32 (i 0).val
  let c2_i32_168 : BitVec 32 := 2#32
  let v351 : BitVec 32 := Scalar.muli arg0 c2_i32_168
  let v352 : BitVec 32 := Scalar.addi v351 c0_i32_169
  let v353 : Index := Scalar.indexCast v352
  let c15 : Index := 15#32
  ![v353.toNat, 15]
def k0_off19 (i : grid0.Coords) (c0_i32_187 : BitVec 32) : Fin 2 → Nat :=
  let arg0 : BitVec 32 := BitVec.ofNat 32 (i 0).val
  let c2_i32_186 : BitVec 32 := 2#32
  let v387 : BitVec 32 := Scalar.muli arg0 c2_i32_186
  let v388 : BitVec 32 := Scalar.addi v387 c0_i32_187
  let v389 : Index := Scalar.indexCast v388
  let c16 : Index := 16#32
  ![v389.toNat, 16]
def k0_off20 (i : grid0.Coords) (c0_i32_191 : BitVec 32) : Fin 2 → Nat :=
  let arg0 : BitVec 32 := BitVec.ofNat 32 (i 0).val
  let c2_i32_190 : BitVec 32 := 2#32
  let v396 : BitVec 32 := Scalar.muli arg0 c2_i32_190
  let v397 : BitVec 32 := Scalar.addi v396 c0_i32_191
  let v398 : Index := Scalar.indexCast v397
  let c17 : Index := 17#32
  ![v398.toNat, 17]
def k0_off21 (i : grid0.Coords) (c0_i32_209 : BitVec 32) : Fin 2 → Nat :=
  let arg0 : BitVec 32 := BitVec.ofNat 32 (i 0).val
  let c2_i32_208 : BitVec 32 := 2#32
  let v432 : BitVec 32 := Scalar.muli arg0 c2_i32_208
  let v433 : BitVec 32 := Scalar.addi v432 c0_i32_209
  let v434 : Index := Scalar.indexCast v433
  let c18 : Index := 18#32
  ![v434.toNat, 18]
def k0_off22 (i : grid0.Coords) (c0_i32_213 : BitVec 32) : Fin 2 → Nat :=
  let arg0 : BitVec 32 := BitVec.ofNat 32 (i 0).val
  let c2_i32_212 : BitVec 32 := 2#32
  let v441 : BitVec 32 := Scalar.muli arg0 c2_i32_212
  let v442 : BitVec 32 := Scalar.addi v441 c0_i32_213
  let v443 : Index := Scalar.indexCast v442
  let c19 : Index := 19#32
  ![v443.toNat, 19]
def k0_off23 (i : grid0.Coords) (c0_i32_231 : BitVec 32) : Fin 2 → Nat :=
  let arg0 : BitVec 32 := BitVec.ofNat 32 (i 0).val
  let c2_i32_230 : BitVec 32 := 2#32
  let v477 : BitVec 32 := Scalar.muli arg0 c2_i32_230
  let v478 : BitVec 32 := Scalar.addi v477 c0_i32_231
  let v479 : Index := Scalar.indexCast v478
  let c20 : Index := 20#32
  ![v479.toNat, 20]
def k0_off24 (i : grid0.Coords) (c0_i32_235 : BitVec 32) : Fin 2 → Nat :=
  let arg0 : BitVec 32 := BitVec.ofNat 32 (i 0).val
  let c2_i32_234 : BitVec 32 := 2#32
  let v486 : BitVec 32 := Scalar.muli arg0 c2_i32_234
  let v487 : BitVec 32 := Scalar.addi v486 c0_i32_235
  let v488 : Index := Scalar.indexCast v487
  let c21 : Index := 21#32
  ![v488.toNat, 21]
def k0_off25 (i : grid0.Coords) (c0_i32_253 : BitVec 32) : Fin 2 → Nat :=
  let arg0 : BitVec 32 := BitVec.ofNat 32 (i 0).val
  let c2_i32_252 : BitVec 32 := 2#32
  let v522 : BitVec 32 := Scalar.muli arg0 c2_i32_252
  let v523 : BitVec 32 := Scalar.addi v522 c0_i32_253
  let v524 : Index := Scalar.indexCast v523
  let c22 : Index := 22#32
  ![v524.toNat, 22]
def k0_off26 (i : grid0.Coords) (c0_i32_257 : BitVec 32) : Fin 2 → Nat :=
  let arg0 : BitVec 32 := BitVec.ofNat 32 (i 0).val
  let c2_i32_256 : BitVec 32 := 2#32
  let v531 : BitVec 32 := Scalar.muli arg0 c2_i32_256
  let v532 : BitVec 32 := Scalar.addi v531 c0_i32_257
  let v533 : Index := Scalar.indexCast v532
  let c23 : Index := 23#32
  ![v533.toNat, 23]
def k0_off27 (i : grid0.Coords) (c0_i32_275 : BitVec 32) : Fin 2 → Nat :=
  let arg0 : BitVec 32 := BitVec.ofNat 32 (i 0).val
  let c2_i32_274 : BitVec 32 := 2#32
  let v567 : BitVec 32 := Scalar.muli arg0 c2_i32_274
  let v568 : BitVec 32 := Scalar.addi v567 c0_i32_275
  let v569 : Index := Scalar.indexCast v568
  let c24 : Index := 24#32
  ![v569.toNat, 24]
def k0_off28 (i : grid0.Coords) (c0_i32_279 : BitVec 32) : Fin 2 → Nat :=
  let arg0 : BitVec 32 := BitVec.ofNat 32 (i 0).val
  let c2_i32_278 : BitVec 32 := 2#32
  let v576 : BitVec 32 := Scalar.muli arg0 c2_i32_278
  let v577 : BitVec 32 := Scalar.addi v576 c0_i32_279
  let v578 : Index := Scalar.indexCast v577
  let c25 : Index := 25#32
  ![v578.toNat, 25]
def k0_off29 (i : grid0.Coords) (c0_i32_297 : BitVec 32) : Fin 2 → Nat :=
  let arg0 : BitVec 32 := BitVec.ofNat 32 (i 0).val
  let c2_i32_296 : BitVec 32 := 2#32
  let v612 : BitVec 32 := Scalar.muli arg0 c2_i32_296
  let v613 : BitVec 32 := Scalar.addi v612 c0_i32_297
  let v614 : Index := Scalar.indexCast v613
  let c26 : Index := 26#32
  ![v614.toNat, 26]
def k0_off30 (i : grid0.Coords) (c0_i32_301 : BitVec 32) : Fin 2 → Nat :=
  let arg0 : BitVec 32 := BitVec.ofNat 32 (i 0).val
  let c2_i32_300 : BitVec 32 := 2#32
  let v621 : BitVec 32 := Scalar.muli arg0 c2_i32_300
  let v622 : BitVec 32 := Scalar.addi v621 c0_i32_301
  let v623 : Index := Scalar.indexCast v622
  let c27 : Index := 27#32
  ![v623.toNat, 27]
def k0_off31 (i : grid0.Coords) (c0_i32_319 : BitVec 32) : Fin 2 → Nat :=
  let arg0 : BitVec 32 := BitVec.ofNat 32 (i 0).val
  let c2_i32_318 : BitVec 32 := 2#32
  let v657 : BitVec 32 := Scalar.muli arg0 c2_i32_318
  let v658 : BitVec 32 := Scalar.addi v657 c0_i32_319
  let v659 : Index := Scalar.indexCast v658
  let c28 : Index := 28#32
  ![v659.toNat, 28]
def k0_off32 (i : grid0.Coords) (c0_i32_323 : BitVec 32) : Fin 2 → Nat :=
  let arg0 : BitVec 32 := BitVec.ofNat 32 (i 0).val
  let c2_i32_322 : BitVec 32 := 2#32
  let v666 : BitVec 32 := Scalar.muli arg0 c2_i32_322
  let v667 : BitVec 32 := Scalar.addi v666 c0_i32_323
  let v668 : Index := Scalar.indexCast v667
  let c29 : Index := 29#32
  ![v668.toNat, 29]
def k0_off33 (i : grid0.Coords) (c0_i32_341 : BitVec 32) : Fin 2 → Nat :=
  let arg0 : BitVec 32 := BitVec.ofNat 32 (i 0).val
  let c2_i32_340 : BitVec 32 := 2#32
  let v702 : BitVec 32 := Scalar.muli arg0 c2_i32_340
  let v703 : BitVec 32 := Scalar.addi v702 c0_i32_341
  let v704 : Index := Scalar.indexCast v703
  let c30 : Index := 30#32
  ![v704.toNat, 30]
def k0_off34 (i : grid0.Coords) (c0_i32_345 : BitVec 32) : Fin 2 → Nat :=
  let arg0 : BitVec 32 := BitVec.ofNat 32 (i 0).val
  let c2_i32_344 : BitVec 32 := 2#32
  let v711 : BitVec 32 := Scalar.muli arg0 c2_i32_344
  let v712 : BitVec 32 := Scalar.addi v711 c0_i32_345
  let v713 : Index := Scalar.indexCast v712
  let c31 : Index := 31#32
  ![v713.toNat, 31]
def k0_off35 (i : grid0.Coords) (c0_i32_363 : BitVec 32) : Fin 2 → Nat :=
  let arg0 : BitVec 32 := BitVec.ofNat 32 (i 0).val
  let c2_i32_362 : BitVec 32 := 2#32
  let v747 : BitVec 32 := Scalar.muli arg0 c2_i32_362
  let v748 : BitVec 32 := Scalar.addi v747 c0_i32_363
  let v749 : Index := Scalar.indexCast v748
  let c32 : Index := 32#32
  ![v749.toNat, 32]
def k0_off36 (i : grid0.Coords) (c0_i32_367 : BitVec 32) : Fin 2 → Nat :=
  let arg0 : BitVec 32 := BitVec.ofNat 32 (i 0).val
  let c2_i32_366 : BitVec 32 := 2#32
  let v756 : BitVec 32 := Scalar.muli arg0 c2_i32_366
  let v757 : BitVec 32 := Scalar.addi v756 c0_i32_367
  let v758 : Index := Scalar.indexCast v757
  let c33 : Index := 33#32
  ![v758.toNat, 33]
def k0_off37 (i : grid0.Coords) (c0_i32_385 : BitVec 32) : Fin 2 → Nat :=
  let arg0 : BitVec 32 := BitVec.ofNat 32 (i 0).val
  let c2_i32_384 : BitVec 32 := 2#32
  let v792 : BitVec 32 := Scalar.muli arg0 c2_i32_384
  let v793 : BitVec 32 := Scalar.addi v792 c0_i32_385
  let v794 : Index := Scalar.indexCast v793
  let c34 : Index := 34#32
  ![v794.toNat, 34]
def k0_off38 (i : grid0.Coords) (c0_i32_389 : BitVec 32) : Fin 2 → Nat :=
  let arg0 : BitVec 32 := BitVec.ofNat 32 (i 0).val
  let c2_i32_388 : BitVec 32 := 2#32
  let v801 : BitVec 32 := Scalar.muli arg0 c2_i32_388
  let v802 : BitVec 32 := Scalar.addi v801 c0_i32_389
  let v803 : Index := Scalar.indexCast v802
  let c35 : Index := 35#32
  ![v803.toNat, 35]
def k0_off39 (i : grid0.Coords) (c0_i32_407 : BitVec 32) : Fin 2 → Nat :=
  let arg0 : BitVec 32 := BitVec.ofNat 32 (i 0).val
  let c2_i32_406 : BitVec 32 := 2#32
  let v837 : BitVec 32 := Scalar.muli arg0 c2_i32_406
  let v838 : BitVec 32 := Scalar.addi v837 c0_i32_407
  let v839 : Index := Scalar.indexCast v838
  let c36 : Index := 36#32
  ![v839.toNat, 36]
def k0_off40 (i : grid0.Coords) (c0_i32_411 : BitVec 32) : Fin 2 → Nat :=
  let arg0 : BitVec 32 := BitVec.ofNat 32 (i 0).val
  let c2_i32_410 : BitVec 32 := 2#32
  let v846 : BitVec 32 := Scalar.muli arg0 c2_i32_410
  let v847 : BitVec 32 := Scalar.addi v846 c0_i32_411
  let v848 : Index := Scalar.indexCast v847
  let c37 : Index := 37#32
  ![v848.toNat, 37]
def k0_off41 (i : grid0.Coords) (c0_i32_429 : BitVec 32) : Fin 2 → Nat :=
  let arg0 : BitVec 32 := BitVec.ofNat 32 (i 0).val
  let c2_i32_428 : BitVec 32 := 2#32
  let v882 : BitVec 32 := Scalar.muli arg0 c2_i32_428
  let v883 : BitVec 32 := Scalar.addi v882 c0_i32_429
  let v884 : Index := Scalar.indexCast v883
  let c38 : Index := 38#32
  ![v884.toNat, 38]
def k0_off42 (i : grid0.Coords) (c0_i32_433 : BitVec 32) : Fin 2 → Nat :=
  let arg0 : BitVec 32 := BitVec.ofNat 32 (i 0).val
  let c2_i32_432 : BitVec 32 := 2#32
  let v891 : BitVec 32 := Scalar.muli arg0 c2_i32_432
  let v892 : BitVec 32 := Scalar.addi v891 c0_i32_433
  let v893 : Index := Scalar.indexCast v892
  let c39 : Index := 39#32
  ![v893.toNat, 39]
def k0_off43 (i : grid0.Coords) (c0_i32_451 : BitVec 32) : Fin 2 → Nat :=
  let arg0 : BitVec 32 := BitVec.ofNat 32 (i 0).val
  let c2_i32_450 : BitVec 32 := 2#32
  let v927 : BitVec 32 := Scalar.muli arg0 c2_i32_450
  let v928 : BitVec 32 := Scalar.addi v927 c0_i32_451
  let v929 : Index := Scalar.indexCast v928
  let c40 : Index := 40#32
  ![v929.toNat, 40]
def k0_off44 (i : grid0.Coords) (c0_i32_455 : BitVec 32) : Fin 2 → Nat :=
  let arg0 : BitVec 32 := BitVec.ofNat 32 (i 0).val
  let c2_i32_454 : BitVec 32 := 2#32
  let v936 : BitVec 32 := Scalar.muli arg0 c2_i32_454
  let v937 : BitVec 32 := Scalar.addi v936 c0_i32_455
  let v938 : Index := Scalar.indexCast v937
  let c41 : Index := 41#32
  ![v938.toNat, 41]
def k0_off45 (i : grid0.Coords) (c0_i32_473 : BitVec 32) : Fin 2 → Nat :=
  let arg0 : BitVec 32 := BitVec.ofNat 32 (i 0).val
  let c2_i32_472 : BitVec 32 := 2#32
  let v972 : BitVec 32 := Scalar.muli arg0 c2_i32_472
  let v973 : BitVec 32 := Scalar.addi v972 c0_i32_473
  let v974 : Index := Scalar.indexCast v973
  let c42 : Index := 42#32
  ![v974.toNat, 42]
def k0_off46 (i : grid0.Coords) (c0_i32_477 : BitVec 32) : Fin 2 → Nat :=
  let arg0 : BitVec 32 := BitVec.ofNat 32 (i 0).val
  let c2_i32_476 : BitVec 32 := 2#32
  let v981 : BitVec 32 := Scalar.muli arg0 c2_i32_476
  let v982 : BitVec 32 := Scalar.addi v981 c0_i32_477
  let v983 : Index := Scalar.indexCast v982
  let c43 : Index := 43#32
  ![v983.toNat, 43]
def k0_off47 (i : grid0.Coords) (c0_i32_495 : BitVec 32) : Fin 2 → Nat :=
  let arg0 : BitVec 32 := BitVec.ofNat 32 (i 0).val
  let c2_i32_494 : BitVec 32 := 2#32
  let v1017 : BitVec 32 := Scalar.muli arg0 c2_i32_494
  let v1018 : BitVec 32 := Scalar.addi v1017 c0_i32_495
  let v1019 : Index := Scalar.indexCast v1018
  let c44 : Index := 44#32
  ![v1019.toNat, 44]
def k0_off48 (i : grid0.Coords) (c0_i32_499 : BitVec 32) : Fin 2 → Nat :=
  let arg0 : BitVec 32 := BitVec.ofNat 32 (i 0).val
  let c2_i32_498 : BitVec 32 := 2#32
  let v1026 : BitVec 32 := Scalar.muli arg0 c2_i32_498
  let v1027 : BitVec 32 := Scalar.addi v1026 c0_i32_499
  let v1028 : Index := Scalar.indexCast v1027
  let c45 : Index := 45#32
  ![v1028.toNat, 45]
def k0_off49 (i : grid0.Coords) (c0_i32_517 : BitVec 32) : Fin 2 → Nat :=
  let arg0 : BitVec 32 := BitVec.ofNat 32 (i 0).val
  let c2_i32_516 : BitVec 32 := 2#32
  let v1062 : BitVec 32 := Scalar.muli arg0 c2_i32_516
  let v1063 : BitVec 32 := Scalar.addi v1062 c0_i32_517
  let v1064 : Index := Scalar.indexCast v1063
  let c46 : Index := 46#32
  ![v1064.toNat, 46]
def k0_off50 (i : grid0.Coords) (c0_i32_521 : BitVec 32) : Fin 2 → Nat :=
  let arg0 : BitVec 32 := BitVec.ofNat 32 (i 0).val
  let c2_i32_520 : BitVec 32 := 2#32
  let v1071 : BitVec 32 := Scalar.muli arg0 c2_i32_520
  let v1072 : BitVec 32 := Scalar.addi v1071 c0_i32_521
  let v1073 : Index := Scalar.indexCast v1072
  let c47 : Index := 47#32
  ![v1073.toNat, 47]
def k0_off51 (i : grid0.Coords) (c0_i32_539 : BitVec 32) : Fin 2 → Nat :=
  let arg0 : BitVec 32 := BitVec.ofNat 32 (i 0).val
  let c2_i32_538 : BitVec 32 := 2#32
  let v1107 : BitVec 32 := Scalar.muli arg0 c2_i32_538
  let v1108 : BitVec 32 := Scalar.addi v1107 c0_i32_539
  let v1109 : Index := Scalar.indexCast v1108
  let c48 : Index := 48#32
  ![v1109.toNat, 48]
def k0_off52 (i : grid0.Coords) (c0_i32_543 : BitVec 32) : Fin 2 → Nat :=
  let arg0 : BitVec 32 := BitVec.ofNat 32 (i 0).val
  let c2_i32_542 : BitVec 32 := 2#32
  let v1116 : BitVec 32 := Scalar.muli arg0 c2_i32_542
  let v1117 : BitVec 32 := Scalar.addi v1116 c0_i32_543
  let v1118 : Index := Scalar.indexCast v1117
  let c49 : Index := 49#32
  ![v1118.toNat, 49]
def k0_off53 (i : grid0.Coords) (c0_i32_561 : BitVec 32) : Fin 2 → Nat :=
  let arg0 : BitVec 32 := BitVec.ofNat 32 (i 0).val
  let c2_i32_560 : BitVec 32 := 2#32
  let v1152 : BitVec 32 := Scalar.muli arg0 c2_i32_560
  let v1153 : BitVec 32 := Scalar.addi v1152 c0_i32_561
  let v1154 : Index := Scalar.indexCast v1153
  let c50 : Index := 50#32
  ![v1154.toNat, 50]
def k0_off54 (i : grid0.Coords) (c0_i32_565 : BitVec 32) : Fin 2 → Nat :=
  let arg0 : BitVec 32 := BitVec.ofNat 32 (i 0).val
  let c2_i32_564 : BitVec 32 := 2#32
  let v1161 : BitVec 32 := Scalar.muli arg0 c2_i32_564
  let v1162 : BitVec 32 := Scalar.addi v1161 c0_i32_565
  let v1163 : Index := Scalar.indexCast v1162
  let c51 : Index := 51#32
  ![v1163.toNat, 51]
def k0_off55 (i : grid0.Coords) (c0_i32_583 : BitVec 32) : Fin 2 → Nat :=
  let arg0 : BitVec 32 := BitVec.ofNat 32 (i 0).val
  let c2_i32_582 : BitVec 32 := 2#32
  let v1197 : BitVec 32 := Scalar.muli arg0 c2_i32_582
  let v1198 : BitVec 32 := Scalar.addi v1197 c0_i32_583
  let v1199 : Index := Scalar.indexCast v1198
  let c52 : Index := 52#32
  ![v1199.toNat, 52]
def k0_off56 (i : grid0.Coords) (c0_i32_587 : BitVec 32) : Fin 2 → Nat :=
  let arg0 : BitVec 32 := BitVec.ofNat 32 (i 0).val
  let c2_i32_586 : BitVec 32 := 2#32
  let v1206 : BitVec 32 := Scalar.muli arg0 c2_i32_586
  let v1207 : BitVec 32 := Scalar.addi v1206 c0_i32_587
  let v1208 : Index := Scalar.indexCast v1207
  let c53 : Index := 53#32
  ![v1208.toNat, 53]
def k0_off57 (i : grid0.Coords) (c0_i32_605 : BitVec 32) : Fin 2 → Nat :=
  let arg0 : BitVec 32 := BitVec.ofNat 32 (i 0).val
  let c2_i32_604 : BitVec 32 := 2#32
  let v1242 : BitVec 32 := Scalar.muli arg0 c2_i32_604
  let v1243 : BitVec 32 := Scalar.addi v1242 c0_i32_605
  let v1244 : Index := Scalar.indexCast v1243
  let c54 : Index := 54#32
  ![v1244.toNat, 54]
def k0_off58 (i : grid0.Coords) (c0_i32_609 : BitVec 32) : Fin 2 → Nat :=
  let arg0 : BitVec 32 := BitVec.ofNat 32 (i 0).val
  let c2_i32_608 : BitVec 32 := 2#32
  let v1251 : BitVec 32 := Scalar.muli arg0 c2_i32_608
  let v1252 : BitVec 32 := Scalar.addi v1251 c0_i32_609
  let v1253 : Index := Scalar.indexCast v1252
  let c55 : Index := 55#32
  ![v1253.toNat, 55]
def k0_off59 (i : grid0.Coords) (c0_i32_627 : BitVec 32) : Fin 2 → Nat :=
  let arg0 : BitVec 32 := BitVec.ofNat 32 (i 0).val
  let c2_i32_626 : BitVec 32 := 2#32
  let v1287 : BitVec 32 := Scalar.muli arg0 c2_i32_626
  let v1288 : BitVec 32 := Scalar.addi v1287 c0_i32_627
  let v1289 : Index := Scalar.indexCast v1288
  let c56 : Index := 56#32
  ![v1289.toNat, 56]
def k0_off60 (i : grid0.Coords) (c0_i32_631 : BitVec 32) : Fin 2 → Nat :=
  let arg0 : BitVec 32 := BitVec.ofNat 32 (i 0).val
  let c2_i32_630 : BitVec 32 := 2#32
  let v1296 : BitVec 32 := Scalar.muli arg0 c2_i32_630
  let v1297 : BitVec 32 := Scalar.addi v1296 c0_i32_631
  let v1298 : Index := Scalar.indexCast v1297
  let c57 : Index := 57#32
  ![v1298.toNat, 57]
def k0_off61 (i : grid0.Coords) (c0_i32_649 : BitVec 32) : Fin 2 → Nat :=
  let arg0 : BitVec 32 := BitVec.ofNat 32 (i 0).val
  let c2_i32_648 : BitVec 32 := 2#32
  let v1332 : BitVec 32 := Scalar.muli arg0 c2_i32_648
  let v1333 : BitVec 32 := Scalar.addi v1332 c0_i32_649
  let v1334 : Index := Scalar.indexCast v1333
  let c58 : Index := 58#32
  ![v1334.toNat, 58]
def k0_off62 (i : grid0.Coords) (c0_i32_653 : BitVec 32) : Fin 2 → Nat :=
  let arg0 : BitVec 32 := BitVec.ofNat 32 (i 0).val
  let c2_i32_652 : BitVec 32 := 2#32
  let v1341 : BitVec 32 := Scalar.muli arg0 c2_i32_652
  let v1342 : BitVec 32 := Scalar.addi v1341 c0_i32_653
  let v1343 : Index := Scalar.indexCast v1342
  let c59 : Index := 59#32
  ![v1343.toNat, 59]
def k0_off63 (i : grid0.Coords) (c0_i32_671 : BitVec 32) : Fin 2 → Nat :=
  let arg0 : BitVec 32 := BitVec.ofNat 32 (i 0).val
  let c2_i32_670 : BitVec 32 := 2#32
  let v1377 : BitVec 32 := Scalar.muli arg0 c2_i32_670
  let v1378 : BitVec 32 := Scalar.addi v1377 c0_i32_671
  let v1379 : Index := Scalar.indexCast v1378
  let c60 : Index := 60#32
  ![v1379.toNat, 60]
def k0_off64 (i : grid0.Coords) (c0_i32_675 : BitVec 32) : Fin 2 → Nat :=
  let arg0 : BitVec 32 := BitVec.ofNat 32 (i 0).val
  let c2_i32_674 : BitVec 32 := 2#32
  let v1386 : BitVec 32 := Scalar.muli arg0 c2_i32_674
  let v1387 : BitVec 32 := Scalar.addi v1386 c0_i32_675
  let v1388 : Index := Scalar.indexCast v1387
  let c61 : Index := 61#32
  ![v1388.toNat, 61]
def k0_off65 (i : grid0.Coords) (c0_i32_693 : BitVec 32) : Fin 2 → Nat :=
  let arg0 : BitVec 32 := BitVec.ofNat 32 (i 0).val
  let c2_i32_692 : BitVec 32 := 2#32
  let v1422 : BitVec 32 := Scalar.muli arg0 c2_i32_692
  let v1423 : BitVec 32 := Scalar.addi v1422 c0_i32_693
  let v1424 : Index := Scalar.indexCast v1423
  let c62 : Index := 62#32
  ![v1424.toNat, 62]
def k0_off66 (i : grid0.Coords) (c0_i32_697 : BitVec 32) : Fin 2 → Nat :=
  let arg0 : BitVec 32 := BitVec.ofNat 32 (i 0).val
  let c2_i32_696 : BitVec 32 := 2#32
  let v1431 : BitVec 32 := Scalar.muli arg0 c2_i32_696
  let v1432 : BitVec 32 := Scalar.addi v1431 c0_i32_697
  let v1433 : Index := Scalar.indexCast v1432
  let c63 : Index := 63#32
  ![v1433.toNat, 63]
def k0_off67 (i : grid0.Coords) (c0_i32_715 : BitVec 32) : Fin 2 → Nat :=
  let arg0 : BitVec 32 := BitVec.ofNat 32 (i 0).val
  let c2_i32_714 : BitVec 32 := 2#32
  let v1467 : BitVec 32 := Scalar.muli arg0 c2_i32_714
  let v1468 : BitVec 32 := Scalar.addi v1467 c0_i32_715
  let v1469 : Index := Scalar.indexCast v1468
  let c64 : Index := 64#32
  ![v1469.toNat, 64]
def k0_off68 (i : grid0.Coords) (c0_i32_719 : BitVec 32) : Fin 2 → Nat :=
  let arg0 : BitVec 32 := BitVec.ofNat 32 (i 0).val
  let c2_i32_718 : BitVec 32 := 2#32
  let v1476 : BitVec 32 := Scalar.muli arg0 c2_i32_718
  let v1477 : BitVec 32 := Scalar.addi v1476 c0_i32_719
  let v1478 : Index := Scalar.indexCast v1477
  let c65 : Index := 65#32
  ![v1478.toNat, 65]
def k0_off69 (i : grid0.Coords) (c0_i32_737 : BitVec 32) : Fin 2 → Nat :=
  let arg0 : BitVec 32 := BitVec.ofNat 32 (i 0).val
  let c2_i32_736 : BitVec 32 := 2#32
  let v1512 : BitVec 32 := Scalar.muli arg0 c2_i32_736
  let v1513 : BitVec 32 := Scalar.addi v1512 c0_i32_737
  let v1514 : Index := Scalar.indexCast v1513
  let c66 : Index := 66#32
  ![v1514.toNat, 66]
def k0_off70 (i : grid0.Coords) (c0_i32_741 : BitVec 32) : Fin 2 → Nat :=
  let arg0 : BitVec 32 := BitVec.ofNat 32 (i 0).val
  let c2_i32_740 : BitVec 32 := 2#32
  let v1521 : BitVec 32 := Scalar.muli arg0 c2_i32_740
  let v1522 : BitVec 32 := Scalar.addi v1521 c0_i32_741
  let v1523 : Index := Scalar.indexCast v1522
  let c67 : Index := 67#32
  ![v1523.toNat, 67]
def k0_off71 (i : grid0.Coords) (c0_i32_759 : BitVec 32) : Fin 2 → Nat :=
  let arg0 : BitVec 32 := BitVec.ofNat 32 (i 0).val
  let c2_i32_758 : BitVec 32 := 2#32
  let v1557 : BitVec 32 := Scalar.muli arg0 c2_i32_758
  let v1558 : BitVec 32 := Scalar.addi v1557 c0_i32_759
  let v1559 : Index := Scalar.indexCast v1558
  let c68 : Index := 68#32
  ![v1559.toNat, 68]
def k0_off72 (i : grid0.Coords) (c0_i32_763 : BitVec 32) : Fin 2 → Nat :=
  let arg0 : BitVec 32 := BitVec.ofNat 32 (i 0).val
  let c2_i32_762 : BitVec 32 := 2#32
  let v1566 : BitVec 32 := Scalar.muli arg0 c2_i32_762
  let v1567 : BitVec 32 := Scalar.addi v1566 c0_i32_763
  let v1568 : Index := Scalar.indexCast v1567
  let c69 : Index := 69#32
  ![v1568.toNat, 69]
def k0_cond2 (i : grid0.Coords) : BitVec 1 :=
  let arg0 : BitVec 32 := BitVec.ofNat 32 (i 0).val
  let c19_i32 : BitVec 32 := 19#32
  let v1620 : BitVec 1 := Scalar.cmpi .eq arg0 c19_i32
  let v1621 : BitVec 32 := Scalar.extui v1620
  let c0_i32_784 : BitVec 32 := 0#32
  let v1622 : BitVec 1 := Scalar.cmpi .ne v1621 c0_i32_784
  v1622

@[reducible] def k0_t1_loop : Scf.Loop 32 :=
  let c0_i32_789 : BitVec 32 := 0#32
  let c40_i32 : BitVec 32 := 40#32
  let v1630 : BitVec 32 := Scalar.addi c0_i32_789 c40_i32
  let c1_i32_790 : BitVec 32 := 1#32
  ⟨c0_i32_789, v1630, c1_i32_790⟩
def k0_mult2 (k0_t1 : Fin k0_t1_loop.trips) : BitVec 32 :=
  let c0_i32_793 : BitVec 32 := 0#32
  let c0_i32_789 : BitVec 32 := 0#32
  let c1_i32_790 : BitVec 32 := 1#32
  let arg15 : BitVec 32 := Scf.iv c0_i32_789 c1_i32_790 k0_t1
  let c1_i32_792 : BitVec 32 := 1#32
  let v1631 : BitVec 32 := Scalar.muli arg15 c1_i32_792
  let v1632 : BitVec 32 := Scalar.addi c0_i32_793 v1631
  let c128_i32 : BitVec 32 := 128#32
  let v1633 : BitVec 32 := Scalar.muli v1632 c128_i32
  v1633
def k0_off73 (k0_t1 : Fin k0_t1_loop.trips) : Fin 2 → Nat :=
  let c0_794 : Index := 0#32
  let c0_i32_793 : BitVec 32 := 0#32
  let c0_i32_789 : BitVec 32 := 0#32
  let c1_i32_790 : BitVec 32 := 1#32
  let arg15 : BitVec 32 := Scf.iv c0_i32_789 c1_i32_790 k0_t1
  let c1_i32_792 : BitVec 32 := 1#32
  let v1631 : BitVec 32 := Scalar.muli arg15 c1_i32_792
  let v1632 : BitVec 32 := Scalar.addi c0_i32_793 v1631
  let c128_i32 : BitVec 32 := 128#32
  let v1633 : BitVec 32 := Scalar.muli v1632 c128_i32
  let v1634 : BitVec 32 := v1633
  let v1635 : Index := Scalar.indexCast v1634
  ![0, v1635.toNat]
def k0_off74 (k0_t1 : Fin k0_t1_loop.trips) : Fin 2 → Nat :=
  let c0_800 : Index := 0#32
  let c0_i32_793 : BitVec 32 := 0#32
  let c0_i32_789 : BitVec 32 := 0#32
  let c1_i32_790 : BitVec 32 := 1#32
  let arg15 : BitVec 32 := Scf.iv c0_i32_789 c1_i32_790 k0_t1
  let c1_i32_792 : BitVec 32 := 1#32
  let v1631 : BitVec 32 := Scalar.muli arg15 c1_i32_792
  let v1632 : BitVec 32 := Scalar.addi c0_i32_793 v1631
  let c128_i32 : BitVec 32 := 128#32
  let v1633 : BitVec 32 := Scalar.muli v1632 c128_i32
  let v1634 : BitVec 32 := v1633
  let v1645 : Index := Scalar.indexCast v1634
  ![0, v1645.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x8960 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S40x70 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x8960 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x5120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x8960 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x5120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "inv_d" => some ((1 / 5120 : ℝ) : EReal)
  | _ => none
-- ==== ReferenceIdeal.lean ====
abbrev S2x128x5120 : Shape := ⟨3, ![2, 128, 5120]⟩
abbrev S2x128 : Shape := ⟨2, ![2, 128]⟩
abbrev S5120 : Shape := ⟨1, ![5120]⟩
abbrev S5120x8960 : Shape := ⟨2, ![5120, 8960]⟩
abbrev S40x70 : Shape := ⟨2, ![40, 70]⟩
abbrev S2x128x8960 : Shape := ⟨3, ![2, 128, 8960]⟩
abbrev S2x128x1 : Shape := ⟨3, ![2, 128, 1]⟩
abbrev S1x1x5120 : Shape := ⟨3, ![1, 1, 5120]⟩
abbrev S40x128x70x128 : Shape := ⟨4, ![40, 128, 70, 128]⟩
abbrev S40x1x70x1 : Shape := ⟨4, ![40, 1, 70, 1]⟩
abbrev S_ : Shape := ⟨0, ![]⟩
abbrev S256x5120 : Shape := ⟨2, ![256, 5120]⟩
abbrev S1x5120 : Shape := ⟨2, ![1, 5120]⟩

abbrev nBuf : Space → Nat
  | .hbm => 49
  | .vmem => 4
  | .smem => 0
  | _ => 0

abbrev bufTy : (tb : Table) → Fin (tcTables nBuf tb) → BufTy
  | .hbm, ⟨0, _⟩ => ⟨S2x128x5120, .fp8e4m3⟩
  | .hbm, ⟨1, _⟩ => ⟨S2x128, .f32⟩
  | .hbm, ⟨2, _⟩ => ⟨S2x128, .f32⟩
  | .hbm, ⟨3, _⟩ => ⟨S5120, .f32⟩
  | .hbm, ⟨4, _⟩ => ⟨S5120x8960, .fp8e4m3⟩
  | .hbm, ⟨5, _⟩ => ⟨S40x70, .f32⟩
  | .hbm, ⟨6, _⟩ => ⟨S2x128x8960, .bf16⟩
  | .hbm, ⟨7, _⟩ => ⟨S2x128x5120, .f32⟩
  | .hbm, ⟨8, _⟩ => ⟨S5120x8960, .bf16⟩
  | .hbm, ⟨9, _⟩ => ⟨S2x128x1, .f32⟩
  | .hbm, ⟨10, _⟩ => ⟨S2x128x5120, .f32⟩
  | .hbm, ⟨11, _⟩ => ⟨S2x128x5120, .f32⟩
  | .hbm, ⟨12, _⟩ => ⟨S2x128x1, .f32⟩
  | .hbm, ⟨13, _⟩ => ⟨S2x128x5120, .f32⟩
  | .hbm, ⟨14, _⟩ => ⟨S2x128x5120, .f32⟩
  | .hbm, ⟨15, _⟩ => ⟨S1x1x5120, .f32⟩
  | .hbm, ⟨16, _⟩ => ⟨S2x128x5120, .f32⟩
  | .hbm, ⟨17, _⟩ => ⟨S2x128x5120, .f32⟩
  | .hbm, ⟨18, _⟩ => ⟨S2x128x5120, .bf16⟩
  | .hbm, ⟨19, _⟩ => ⟨S5120x8960, .f32⟩
  | .hbm, ⟨20, _⟩ => ⟨S40x128x70x128, .bf16⟩
  | .hbm, ⟨21, _⟩ => ⟨S40x70, .bf16⟩
  | .hbm, ⟨22, _⟩ => ⟨S40x1x70x1, .bf16⟩
  | .hbm, ⟨23, _⟩ => ⟨S40x128x70x128, .bf16⟩
  | .hbm, ⟨24, _⟩ => ⟨S40x128x70x128, .bf16⟩
  | .hbm, ⟨25, _⟩ => ⟨S5120x8960, .bf16⟩
  | .hbm, ⟨26, _⟩ => ⟨S2x128x5120, .f32⟩
  | .hbm, ⟨27, _⟩ => ⟨S2x128x5120, .f32⟩
  | .hbm, ⟨28, _⟩ => ⟨S_, .f32⟩
  | .hbm, ⟨29, _⟩ => ⟨S5120, .f32⟩
  | .hbm, ⟨30, _⟩ => ⟨S1x1x5120, .f32⟩
  | .hbm, ⟨31, _⟩ => ⟨S2x128x5120, .f32⟩
  | .hbm, ⟨32, _⟩ => ⟨S2x128x5120, .f32⟩
  | .hbm, ⟨33, _⟩ => ⟨S2x128x1, .f32⟩
  | .hbm, ⟨34, _⟩ => ⟨S2x128x5120, .f32⟩
  | .hbm, ⟨35, _⟩ => ⟨S_, .f32⟩
  | .hbm, ⟨36, _⟩ => ⟨S2x128, .f32⟩
  | .hbm, ⟨37, _⟩ => ⟨S2x128x1, .f32⟩
  | .hbm, ⟨38, _⟩ => ⟨S_, .f32⟩
  | .hbm, ⟨39, _⟩ => ⟨S2x128x1, .f32⟩
  | .hbm, ⟨40, _⟩ => ⟨S2x128x1, .f32⟩
  | .hbm, ⟨41, _⟩ => ⟨S2x128x5120, .f32⟩
  | .hbm, ⟨42, _⟩ => ⟨S2x128x5120, .f32⟩
  | .hbm, ⟨43, _⟩ => ⟨S2x128x5120, .f32⟩
  | .hbm, ⟨44, _⟩ => ⟨S2x128x5120, .f32⟩
  | .hbm, ⟨45, _⟩ => ⟨S2x128x5120, .f32⟩
  | .hbm, ⟨46, _⟩ => ⟨S2x128x5120, .bf16⟩
  | .hbm, ⟨47, _⟩ => ⟨S256x5120, .bf16⟩
  | .hbm, ⟨48, _⟩ => ⟨S1x5120, .f32⟩
  | .local _ .vmem, ⟨0, _⟩ => ⟨S2x128x5120, .fp8e4m3⟩
  | .local _ .vmem, ⟨1, _⟩ => ⟨S5120x8960, .fp8e4m3⟩
  | .local _ .vmem, ⟨2, _⟩ => ⟨S2x128x5120, .f32⟩
  | .local _ .vmem, ⟨3, _⟩ => ⟨S5120x8960, .bf16⟩
  | _, _ => ⟨S2x128x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x128x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x8960 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x8960 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Kernel.Setup.lean ====
module

public import proofs.«01_k».proof.Proof.Gen.Kernel.Frame
public import proofs.«01_k».proof.Proof.Gen.Kernel.Loops

/-! The condition of the kernel body's first branch, as a word of the grid point, and the body's last branch as a
    program of its own: at the last grid point dx is written, 128 columns a trip. -/

@[expose] public section

namespace Cert.Kernel.Body

open Cert.Kernel Cert.Kernel.Gen
open Idealize.ShloMosaic Idealize.ShloMosaic.TcCoe Idealize.SL.Sem

/-- The word the body tests to see whether it is at the first grid point. -/
abbrev first (i : grid0.Coords) : BitVec 1 :=
  Scalar.cmpi .ne (Scalar.extui (Scalar.cmpi .eq (BitVec.ofNat 32 (i 0).val) 0#32) : BitVec 32) 0#32

variable {F : FTy → Type} [FloatOps F]

/-- What the body does once the block of the point is done: at the last point it loads the row sums and writes dx. -/
noncomputable def ending (i : grid0.Coords) (arg1 : Memref sig .tc .vmem S256x5120 .fp8e4m3) (harg1 : arg1.IsWhole) (arg2 : Memref sig .tc .vmem S2x128 .f32) (harg2 : arg2.IsWhole) (arg3 : Memref sig .tc .vmem S2x128 .f32) (harg3 : arg3.IsWhole) (arg4 : Memref sig .tc .vmem S1x5120 .f32) (harg4 : arg4.IsWhole) (arg5 : Memref sig .tc .vmem S256x8960 .fp8e4m3) (harg5 : arg5.IsWhole) (arg6 : Memref sig .tc .smem S40x70 .f32) (harg6 : arg6.IsWhole) (arg7 : Memref sig .tc .vmem S256x8960 .bf16) (harg7 : arg7.IsWhole) (arg8 : Memref sig .tc .vmem S256x5120 .bf16) (harg8 : arg8.IsWhole) (arg9 : Memref sig .tc .vmem S256x8960 .f32) (harg9 : arg9.IsWhole) (arg10 : Memref sig .tc .vmem S1x5120 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x5120 .f32) (harg13 : arg13.IsWhole) (arg14 : Memref sig .tc .vmem S256x128 .f32) (harg14 : arg14.IsWhole) : Prog (TpuEff nD τ sig (Elt F) Λ₀ .tc) PUnit := do
  if k0_h2 : k0_cond2 i = 1#1 then do
    let v1623 : Vec F S256x128 .f32 ← Prog.lift (.load arg14 (Rect.unit (s := S256x128) ![0, 0] S256x128.size inb_S256x128_S256x128_0_0).toLoadRect (View.loadsAt_vmem h_S256x128))
    Scf.Loop.for k0_t1_loop (k0_t1_ok i k0_h2) ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 k0_h2 v1623)
    pure ⟨⟩
  else do
    pure ⟨⟩
  pure ⟨⟩

end Cert.Kernel.Body

end
-- ==== Proof.Kernel.RunA.lean ====
module

public import proofs.«01_k».proof.Proof.Kernel.Setup

@[expose] public section

set_option maxRecDepth 16384

noncomputable section

namespace Cert.Kernel.Body
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
/-- One run of the kernel's body at the FIRST grid point: it fills the two column scratches and clears the running row sums.
    From the fourteen buffers it is handed, each whole and at named contents, the body runs up to its last branch (`ending`) and
    has by then the ones it only reads as they were, and each one it stores into with a list of pieces written over what
    it held. The lists (last store first) are found by the run. -/
noncomputable def runA (c : Dev nD) (i : grid0.Coords) (arg1 : Memref sig .tc .vmem S256x5120 .fp8e4m3) (harg1 : arg1.IsWhole) (arg2 : Memref sig .tc .vmem S2x128 .f32) (harg2 : arg2.IsWhole) (arg3 : Memref sig .tc .vmem S2x128 .f32) (harg3 : arg3.IsWhole) (arg4 : Memref sig .tc .vmem S1x5120 .f32) (harg4 : arg4.IsWhole) (arg5 : Memref sig .tc .vmem S256x8960 .fp8e4m3) (harg5 : arg5.IsWhole) (arg6 : Memref sig .tc .smem S40x70 .f32) (harg6 : arg6.IsWhole) (arg7 : Memref sig .tc .vmem S256x8960 .bf16) (harg7 : arg7.IsWhole) (arg8 : Memref sig .tc .vmem S256x5120 .bf16) (harg8 : arg8.IsWhole) (arg9 : Memref sig .tc .vmem S256x8960 .f32) (harg9 : arg9.IsWhole) (arg10 : Memref sig .tc .vmem S1x5120 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x5120 .f32) (harg13 : arg13.IsWhole) (arg14 : Memref sig .tc .vmem S256x128 .f32) (harg14 : arg14.IsWhole) (hc0 : first i = 1#1)
    (x1 : Vec F S256x5120 .fp8e4m3) (x2 : Vec F S2x128 .f32) (x3 : Vec F S2x128 .f32) (x4 : Vec F S1x5120 .f32) (x5 : Vec F S256x8960 .fp8e4m3) (x6 : Vec F S40x70 .f32) (x7 : Vec F S256x8960 .bf16) (x8 : Vec F S256x5120 .bf16) (x9 : Vec F S256x8960 .f32) (x10 : Vec F S1x5120 .f32) (x11 : Vec F S256x128 .f32) (x12 : Vec F S256x128 .f32) (x13 : Vec F S256x5120 .f32) (x14 : Vec F S256x128 .f32) :
    Σ' (L9 : List (View.Piece (Elt F) S256x8960 .f32)), Σ' (L10 : List (View.Piece (Elt F) S1x5120 .f32)), Σ' (L11 : List (View.Piece (Elt F) S256x128 .f32)), Σ' (L12 : List (View.Piece (Elt F) S256x128 .f32)), Σ' (L13 : List (View.Piece (Elt F) S256x5120 .f32)), { L14 : List (View.Piece (Elt F) S256x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (arg9.view.loc (c : Thread nD τ) ↦[arg9.view.set]{fullShare} arg9.view.writes (Elt F) (harg9.unread x9) L9) ∗ (arg10.view.loc (c : Thread nD τ) ↦[arg10.view.set]{fullShare} arg10.view.writes (Elt F) (harg10.unread x10) L10) ∗ (arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread x12) L12) ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14)) -∗ wp frame (wpE (defs₀ (F := F)) Variants.none c none) E (ending (F := F) i arg1 harg1 arg2 harg2 arg3 harg3 arg4 harg4 arg5 harg5 arg6 harg6 arg7 harg7 arg8 harg8 arg9 harg9 arg10 harg10 arg11 harg11 arg12 harg12 arg13 harg13 arg14 harg14) K))
          ⊢ wp frame (wpE (defs₀ (F := F)) Variants.none c none) E (cc0_rmsnorm_qkv_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_rmsnorm_qkv_bwd_eq_skeleton]; unfold cc0_rmsnorm_qkv_bwd_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec_parts (disch := sl_exact hc0)
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexact H9
    isplitl [H10]
    · iexact H10
    isplitl [H11]
    · iexact H11
    isplitl [H12]
    · iexact H12
    isplitl [H13]
    · iexact H13
    iexact H14

end Cert.Kernel.Body

end
-- ==== Proof.Kernel.RunB.lean ====
module

public import proofs.«01_k».proof.Proof.Kernel.Setup

@[expose] public section

set_option maxRecDepth 16384

noncomputable section

namespace Cert.Kernel.Body
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
/-- One run of the kernel's body at a LATER grid point: it finds the two column scratches and the running row sums of the points before.
    From the fourteen buffers it is handed, each whole and at named contents, the body runs up to its last branch (`ending`) and
    has by then the ones it only reads as they were, and each one it stores into with a list of pieces written over what
    it held. The lists (last store first) are found by the run. -/
noncomputable def runB (c : Dev nD) (i : grid0.Coords) (arg1 : Memref sig .tc .vmem S256x5120 .fp8e4m3) (harg1 : arg1.IsWhole) (arg2 : Memref sig .tc .vmem S2x128 .f32) (harg2 : arg2.IsWhole) (arg3 : Memref sig .tc .vmem S2x128 .f32) (harg3 : arg3.IsWhole) (arg4 : Memref sig .tc .vmem S1x5120 .f32) (harg4 : arg4.IsWhole) (arg5 : Memref sig .tc .vmem S256x8960 .fp8e4m3) (harg5 : arg5.IsWhole) (arg6 : Memref sig .tc .smem S40x70 .f32) (harg6 : arg6.IsWhole) (arg7 : Memref sig .tc .vmem S256x8960 .bf16) (harg7 : arg7.IsWhole) (arg8 : Memref sig .tc .vmem S256x5120 .bf16) (harg8 : arg8.IsWhole) (arg9 : Memref sig .tc .vmem S256x8960 .f32) (harg9 : arg9.IsWhole) (arg10 : Memref sig .tc .vmem S1x5120 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x5120 .f32) (harg13 : arg13.IsWhole) (arg14 : Memref sig .tc .vmem S256x128 .f32) (harg14 : arg14.IsWhole) (hc0 : ¬first i = 1#1)
    (x1 : Vec F S256x5120 .fp8e4m3) (x2 : Vec F S2x128 .f32) (x3 : Vec F S2x128 .f32) (x4 : Vec F S1x5120 .f32) (x5 : Vec F S256x8960 .fp8e4m3) (x6 : Vec F S40x70 .f32) (x7 : Vec F S256x8960 .bf16) (x8 : Vec F S256x5120 .bf16) (x9 : Vec F S256x8960 .f32) (x10 : Vec F S1x5120 .f32) (x11 : Vec F S256x128 .f32) (x12 : Vec F S256x128 .f32) (x13 : Vec F S256x5120 .f32) (x14 : Vec F S256x128 .f32) :
    Σ' (L9 : List (View.Piece (Elt F) S256x8960 .f32)), Σ' (L10 : List (View.Piece (Elt F) S1x5120 .f32)), Σ' (L13 : List (View.Piece (Elt F) S256x5120 .f32)), { L14 : List (View.Piece (Elt F) S256x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (arg9.view.loc (c : Thread nD τ) ↦[arg9.view.set]{fullShare} arg9.view.writes (Elt F) (harg9.unread x9) L9) ∗ (arg10.view.loc (c : Thread nD τ) ↦[arg10.view.set]{fullShare} arg10.view.writes (Elt F) (harg10.unread x10) L10) ∗ owns (c : Thread nD τ) arg11 fullShare x11 ∗ owns (c : Thread nD τ) arg12 fullShare x12 ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14)) -∗ wp frame (wpE (defs₀ (F := F)) Variants.none c none) E (ending (F := F) i arg1 harg1 arg2 harg2 arg3 harg3 arg4 harg4 arg5 harg5 arg6 harg6 arg7 harg7 arg8 harg8 arg9 harg9 arg10 harg10 arg11 harg11 arg12 harg12 arg13 harg13 arg14 harg14) K))
          ⊢ wp frame (wpE (defs₀ (F := F)) Variants.none c none) E (cc0_rmsnorm_qkv_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_rmsnorm_qkv_bwd_eq_skeleton]; unfold cc0_rmsnorm_qkv_bwd_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec_parts (disch := sl_exact hc0)
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexact H9
    isplitl [H10]
    · iexact H10
    isplitl [H11]
    · iexists _; isplitr; · ipureintro; exact harg11.read_unread _
      iexact H11
    isplitl [H12]
    · iexists _; isplitr; · ipureintro; exact harg12.read_unread _
      iexact H12
    isplitl [H13]
    · iexact H13
    iexact H14

end Cert.Kernel.Body

end
-- ==== Proof.Kernel.RunEnd.lean ====
module

public import proofs.«01_k».proof.Proof.Kernel.Setup

@[expose] public section

set_option maxRecDepth 16384

noncomputable section

namespace Cert.Kernel.Body
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- At every point but the last, the body's last branch does nothing. -/
theorem ending_skip (c : Dev nD) (i : grid0.Coords) (arg1 : Memref sig .tc .vmem S256x5120 .fp8e4m3) (harg1 : arg1.IsWhole) (arg2 : Memref sig .tc .vmem S2x128 .f32) (harg2 : arg2.IsWhole) (arg3 : Memref sig .tc .vmem S2x128 .f32) (harg3 : arg3.IsWhole) (arg4 : Memref sig .tc .vmem S1x5120 .f32) (harg4 : arg4.IsWhole) (arg5 : Memref sig .tc .vmem S256x8960 .fp8e4m3) (harg5 : arg5.IsWhole) (arg6 : Memref sig .tc .smem S40x70 .f32) (harg6 : arg6.IsWhole) (arg7 : Memref sig .tc .vmem S256x8960 .bf16) (harg7 : arg7.IsWhole) (arg8 : Memref sig .tc .vmem S256x5120 .bf16) (harg8 : arg8.IsWhole) (arg9 : Memref sig .tc .vmem S256x8960 .f32) (harg9 : arg9.IsWhole) (arg10 : Memref sig .tc .vmem S1x5120 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x5120 .f32) (harg13 : arg13.IsWhole) (arg14 : Memref sig .tc .vmem S256x128 .f32) (harg14 : arg14.IsWhole) (h : ¬k0_cond2 i = 1#1) (E : Set ℕ) (K : PUnit → sProp 𝕄) :
    K ⟨⟩ ⊢ wp frame (wpE (defs₀ (F := F)) Variants.none c none) E (ending (F := F) i arg1 harg1 arg2 harg2 arg3 harg3 arg4 harg4 arg5 harg5 arg6 harg6 arg7 harg7 arg8 harg8 arg9 harg9 arg10 harg10 arg11 harg11 arg12 harg12 arg13 harg13 arg14 harg14) K := by
  unfold ending
  iintro H
  sl_exec (disch := sl_exact h)
  sl_step
  iexact H

set_option maxHeartbeats 2000000 in
/-- At the last point, the body's last branch writes dx: the pieces it stores into the buffer of dx (last first) are
    found by the run, trip by trip; everything it reads it hands back as it was. -/
noncomputable def runEnd (c : Dev nD) (i : grid0.Coords) (arg1 : Memref sig .tc .vmem S256x5120 .fp8e4m3) (harg1 : arg1.IsWhole) (arg2 : Memref sig .tc .vmem S2x128 .f32) (harg2 : arg2.IsWhole) (arg3 : Memref sig .tc .vmem S2x128 .f32) (harg3 : arg3.IsWhole) (arg4 : Memref sig .tc .vmem S1x5120 .f32) (harg4 : arg4.IsWhole) (arg5 : Memref sig .tc .vmem S256x8960 .fp8e4m3) (harg5 : arg5.IsWhole) (arg6 : Memref sig .tc .smem S40x70 .f32) (harg6 : arg6.IsWhole) (arg7 : Memref sig .tc .vmem S256x8960 .bf16) (harg7 : arg7.IsWhole) (arg8 : Memref sig .tc .vmem S256x5120 .bf16) (harg8 : arg8.IsWhole) (arg9 : Memref sig .tc .vmem S256x8960 .f32) (harg9 : arg9.IsWhole) (arg10 : Memref sig .tc .vmem S1x5120 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x5120 .f32) (harg13 : arg13.IsWhole) (arg14 : Memref sig .tc .vmem S256x128 .f32) (harg14 : arg14.IsWhole) (h : k0_cond2 i = 1#1)
    (x1 : Vec F S256x5120 .fp8e4m3) (x4 : Vec F S1x5120 .f32) (x8 : Vec F S256x5120 .bf16) (x11 : Vec F S256x128 .f32) (x12 : Vec F S256x128 .f32) (x13 : Vec F S256x5120 .f32) (x14 : Vec F S256x128 .f32) :
    { L8 : List (View.Piece (Elt F) S256x5120 .bf16) //
      ∀ (E : Set ℕ) (K : PUnit → sProp 𝕄),
        iprop(owns (c : Thread nD τ) arg1 fullShare x1 ∗ owns (c : Thread nD τ) arg4 fullShare x4 ∗ owns (c : Thread nD τ) arg8 fullShare x8 ∗ owns (c : Thread nD τ) arg11 fullShare x11 ∗ owns (c : Thread nD τ) arg12 fullShare x12 ∗ owns (c : Thread nD τ) arg13 fullShare x13 ∗ owns (c : Thread nD τ) arg14 fullShare x14
            ∗ (iprop(owns (c : Thread nD τ) arg1 fullShare x1 ∗ owns (c : Thread nD τ) arg4 fullShare x4 ∗ (arg8.view.loc (c : Thread nD τ) ↦[arg8.view.set]{fullShare} arg8.view.writes (Elt F) (harg8.unread x8) L8) ∗ owns (c : Thread nD τ) arg11 fullShare x11 ∗ owns (c : Thread nD τ) arg12 fullShare x12 ∗ owns (c : Thread nD τ) arg13 fullShare x13 ∗ owns (c : Thread nD τ) arg14 fullShare x14) -∗ K ⟨⟩))
          ⊢ wp frame (wpE (defs₀ (F := F)) Variants.none c none) E (ending (F := F) i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    unfold ending
    unfold owns
    iintro ⟨⟨%f1, %hf1, H1⟩, ⟨%f4, %hf4, H4⟩, ⟨%f8, %hf8, H8⟩, ⟨%f11, %hf11, H11⟩, ⟨%f12, %hf12, H12⟩, ⟨%f13, %hf13, H13⟩, ⟨%f14, %hf14, H14⟩, Hk⟩
    obtain rfl := harg1.eq_unread hf1; obtain rfl := harg4.eq_unread hf4; obtain rfl := harg8.eq_unread hf8; obtain rfl := harg11.eq_unread hf11; obtain rfl := harg12.eq_unread hf12; obtain rfl := harg13.eq_unread hf13; obtain rfl := harg14.eq_unread hf14
    sl_exec (disch := sl_exact h)
    sl_step
    iapply Hk
    isplitl [H1]
    · iexists _; isplitr; · ipureintro; exact harg1.read_unread _
      iexact H1
    isplitl [H4]
    · iexists _; isplitr; · ipureintro; exact harg4.read_unread _
      iexact H4
    isplitl [H8]
    · iexact H8
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    iexists _; isplitr; · ipureintro; exact harg14.read_unread _
    iexact H14

end Cert.Kernel.Body

end
-- ==== Proof.Kernel.Sound.lean ====
module

public import proofs.«01_k».proof.Proof.Kernel.RunA
public import proofs.«01_k».proof.Proof.Kernel.RunB
public import proofs.«01_k».proof.Proof.Kernel.RunEnd
public import Idealize.ShloMosaic.Lib.Pipeline.DatRel
public import Idealize.ShloMosaic.Lib.Pipeline.ArrRel

/-! The whole run of the kernel from the runs of its body.

    A `Track` says what is known between grid points: of the four scratch buffers (`S n`, before point `n`), and of what
    the body leaves at a point in the buffers of the three results (`R7` for dx, `R8` for dW, `R9` for dgamma). If every
    run of the body keeps to it (`Track.Good`), the launch theorem of the library gives the run of the whole program:
    the arguments end as they were, every counter is zero, and each result is put together from blocks of which the
    track's relations hold. -/

@[expose] public section

set_option maxRecDepth 16384

noncomputable section

namespace Cert.Kernel.Body
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## The branch conditions, as conditions on the number of the point -/

/-- The body is at the first point exactly at point 0. -/
theorem first_iff : ∀ t : Fin cfg0.N, first (grid0.coords t) = 1#1 ↔ t.val % 20 = 0 :=
  (fun t => by
    have ht : t.val < 20 := Nat.lt_of_lt_of_eq t.isLt N_0
    have e0 : (grid0.coords t 0).val = t.val / 1 % 20 := Pipeline.Grid.coords_val t 0 (by decide) rfl
    simp only [first, e0]
    word_cmp
   : ∀ t : Fin grid0.N, first (grid0.coords t) = 1#1 ↔ t.val % 20 = 0)

/-- The last branch is taken exactly at point 19. -/
theorem last_iff : ∀ t : Fin cfg0.N, k0_cond2 (grid0.coords t) = 1#1 ↔ t.val % 20 = 19 :=
  (fun t => by
    have ht : t.val < 20 := Nat.lt_of_lt_of_eq t.isLt N_0
    have e0 : (grid0.coords t 0).val = t.val / 1 % 20 := Pipeline.Grid.coords_val t 0 (by decide) rfl
    simp only [k0_cond2, e0]
    word_cmp
   : ∀ t : Fin grid0.N, k0_cond2 (grid0.coords t) = 1#1 ↔ t.val % 20 = 19)

/-! ## The fourteen buffers the body gets at a point: ten staging buffers, then the four scratch buffers -/

/-- The buffer of the codes. -/
abbrev m1 (t : Fin cfg0.N) : Memref sig .tc .vmem S256x5120 .fp8e4m3 := win0_0.stage (cfg0.slots t 0)
/-- It is a whole buffer. -/
abbrev h1 (t : Fin cfg0.N) : (m1 t).IsWhole := hstage0_0 ((cfg0.slots t 0).cast nbuf0_0)
/-- The buffer of the input scales. -/
abbrev m2 (t : Fin cfg0.N) : Memref sig .tc .vmem S2x128 .f32 := win0_1.stage (cfg0.slots t 1)
/-- It is a whole buffer. -/
abbrev h2 (t : Fin cfg0.N) : (m2 t).IsWhole := hstage0_1 ((cfg0.slots t 1).cast nbuf0_1)
/-- The buffer of the row norms' reciprocals. -/
abbrev m3 (t : Fin cfg0.N) : Memref sig .tc .vmem S2x128 .f32 := win0_2.stage (cfg0.slots t 2)
/-- It is a whole buffer. -/
abbrev h3 (t : Fin cfg0.N) : (m3 t).IsWhole := hstage0_2 ((cfg0.slots t 2).cast nbuf0_2)
/-- The buffer of the gains. -/
abbrev m4 (t : Fin cfg0.N) : Memref sig .tc .vmem S1x5120 .f32 := win0_3.stage (cfg0.slots t 3)
/-- It is a whole buffer. -/
abbrev h4 (t : Fin cfg0.N) : (m4 t).IsWhole := hstage0_3 ((cfg0.slots t 3).cast nbuf0_3)
/-- The buffer of the block of weights. -/
abbrev m5 (t : Fin cfg0.N) : Memref sig .tc .vmem S256x8960 .fp8e4m3 := win0_4.stage (cfg0.slots t 4)
/-- It is a whole buffer. -/
abbrev h5 (t : Fin cfg0.N) : (m5 t).IsWhole := hstage0_4 ((cfg0.slots t 4).cast nbuf0_4)
/-- The buffer of the weight scales. -/
abbrev m6 (t : Fin cfg0.N) : Memref sig .tc .smem S40x70 .f32 := win0_5.stage (cfg0.slots t 5)
/-- It is a whole buffer. -/
abbrev h6 (t : Fin cfg0.N) : (m6 t).IsWhole := hstage0_5 ((cfg0.slots t 5).cast nbuf0_5)
/-- The buffer of the incoming gradient. -/
abbrev m7 (t : Fin cfg0.N) : Memref sig .tc .vmem S256x8960 .bf16 := win0_6.stage (cfg0.slots t 6)
/-- It is a whole buffer. -/
abbrev h7 (t : Fin cfg0.N) : (m7 t).IsWhole := hstage0_6 ((cfg0.slots t 6).cast nbuf0_6)
/-- The buffer of the gradient of the activations. -/
abbrev m8 (t : Fin cfg0.N) : Memref sig .tc .vmem S256x5120 .bf16 := win0_7.stage (cfg0.slots t 7)
/-- It is a whole buffer. -/
abbrev h8 (t : Fin cfg0.N) : (m8 t).IsWhole := hstage0_7 ((cfg0.slots t 7).cast nbuf0_7)
/-- The buffer of the block of the weights' gradient. -/
abbrev m9 (t : Fin cfg0.N) : Memref sig .tc .vmem S256x8960 .f32 := win0_8.stage (cfg0.slots t 8)
/-- It is a whole buffer. -/
abbrev h9 (t : Fin cfg0.N) : (m9 t).IsWhole := hstage0_8 ((cfg0.slots t 8).cast nbuf0_8)
/-- The buffer of the gradient of the gains. -/
abbrev m10 (t : Fin cfg0.N) : Memref sig .tc .vmem S1x5120 .f32 := win0_9.stage (cfg0.slots t 9)
/-- It is a whole buffer. -/
abbrev h10 (t : Fin cfg0.N) : (m10 t).IsWhole := hstage0_9 ((cfg0.slots t 9).cast nbuf0_9)
/-- The buffer of the spread input scales. -/
abbrev m11 (_ : Fin cfg0.N) : Memref sig .tc .vmem S256x128 .f32 := Memref.whole cc0_scratch0
/-- It is a whole buffer. -/
abbrev h11 (t : Fin cfg0.N) : (m11 t).IsWhole := Memref.isWhole_whole _
/-- The buffer of the spread reciprocals. -/
abbrev m12 (_ : Fin cfg0.N) : Memref sig .tc .vmem S256x128 .f32 := Memref.whole cc0_scratch1
/-- It is a whole buffer. -/
abbrev h12 (t : Fin cfg0.N) : (m12 t).IsWhole := Memref.isWhole_whole _
/-- The buffer of the gradient of the scaled activations. -/
abbrev m13 (_ : Fin cfg0.N) : Memref sig .tc .vmem S256x5120 .f32 := Memref.whole cc0_scratch2
/-- It is a whole buffer. -/
abbrev h13 (t : Fin cfg0.N) : (m13 t).IsWhole := Memref.isWhole_whole _
/-- The buffer of the row sums. -/
abbrev m14 (_ : Fin cfg0.N) : Memref sig .tc .vmem S256x128 .f32 := Memref.whole cc0_scratch3
/-- It is a whole buffer. -/
abbrev h14 (t : Fin cfg0.N) : (m14 t).IsWhole := Memref.isWhole_whole _

/-- A whole buffer held with pieces written over its contents is a buffer held at what it then reads. -/
theorem owns_writes {sp : Space} {s : Shape} {e : EltTy} (a : Memref sig .tc sp s e) (f : BufTy.Contents (Elt F) a.view.ty) (L : List (View.Piece (Elt F) s e)) :
    (a.view.loc (c : Thread nD τ) ↦[a.view.set]{fullShare} a.view.writes (Elt F) f L : sProp 𝕄)
      ⊢ owns (c : Thread nD τ) a fullShare (a.view.read (Elt F) (a.view.writes (Elt F) f L)) := by
  unfold owns; iintro H; iexists _; isplitr
  · ipureintro; rfl
  · iexact H

/-! ## What is known between points -/

/-- What is known of the scratch buffers before each point (`S`) and of what a point leaves in the buffers of dx, dW
    and dgamma (`R7`, `R8`, `R9`). -/
structure Track (F : FTy → Type) [FloatOps F] where
  S : ℕ → Vec F S256x128 .f32 → Vec F S256x128 .f32 → Vec F S256x5120 .f32 → Vec F S256x128 .f32 → Prop
  R7 : Fin cfg0.N → Vec F S256x5120 .bf16 → Prop
  R8 : Fin cfg0.N → Vec F S256x8960 .f32 → Prop
  R9 : Fin cfg0.N → Vec F S1x5120 .f32 → Prop

/-- Every run of the body keeps to the track: nothing is known at the start; the first point establishes it, a later
    point carries it on, the last branch establishes what is known of dx, and at the other points nothing is. -/
structure Track.Good (T : Track F) : Prop where
  zero : ∀ x11 x12 x13 x14, T.S 0 x11 x12 x13 x14
  first : ∀ (t : Fin cfg0.N) (h : first (grid0.coords t) = 1#1) (x8 : Vec F S256x5120 .bf16) (x9 : Vec F S256x8960 .f32) (x10 : Vec F S1x5120 .f32) (x11 : Vec F S256x128 .f32) (x12 : Vec F S256x128 .f32) (x13 : Vec F S256x5120 .f32) (x14 : Vec F S256x128 .f32),
    let r := runA c (grid0.coords t) (m1 t) (h1 t) (m2 t) (h2 t) (m3 t) (h3 t) (m4 t) (h4 t) (m5 t) (h5 t) (m6 t) (h6 t) (m7 t) (h7 t) (m8 t) (h8 t) (m9 t) (h9 t) (m10 t) (h10 t) (m11 t) (h11 t) (m12 t) (h12 t) (m13 t) (h13 t) (m14 t) (h14 t) h (iblk m c 0 t) (iblk m c 1 t) (iblk m c 2 t) (iblk m c 3 t) (iblk m c 4 t) (iblk m c 5 t) (iblk m c 6 t) x8 x9 x10 x11 x12 x13 x14
    T.S (t.val + 1) ((m11 t).view.read (Elt F) ((m11 t).view.writes (Elt F) ((h11 t).unread x11) r.2.2.1)) ((m12 t).view.read (Elt F) ((m12 t).view.writes (Elt F) ((h12 t).unread x12) r.2.2.2.1)) ((m13 t).view.read (Elt F) ((m13 t).view.writes (Elt F) ((h13 t).unread x13) r.2.2.2.2.1)) ((m14 t).view.read (Elt F) ((m14 t).view.writes (Elt F) ((h14 t).unread x14) r.2.2.2.2.2.1))
      ∧ T.R8 t ((m9 t).view.read (Elt F) ((m9 t).view.writes (Elt F) ((h9 t).unread x9) r.1)) ∧ T.R9 t ((m10 t).view.read (Elt F) ((m10 t).view.writes (Elt F) ((h10 t).unread x10) r.2.1))
  later : ∀ (t : Fin cfg0.N) (h : ¬Body.first (grid0.coords t) = 1#1) (x8 : Vec F S256x5120 .bf16) (x9 : Vec F S256x8960 .f32) (x10 : Vec F S1x5120 .f32) (x11 : Vec F S256x128 .f32) (x12 : Vec F S256x128 .f32) (x13 : Vec F S256x5120 .f32) (x14 : Vec F S256x128 .f32),
    T.S t.val x11 x12 x13 x14 → T.R9 ⟨t.val - 1, Nat.lt_of_le_of_lt (Nat.sub_le _ _) t.isLt⟩ x10 →
    let r := runB c (grid0.coords t) (m1 t) (h1 t) (m2 t) (h2 t) (m3 t) (h3 t) (m4 t) (h4 t) (m5 t) (h5 t) (m6 t) (h6 t) (m7 t) (h7 t) (m8 t) (h8 t) (m9 t) (h9 t) (m10 t) (h10 t) (m11 t) (h11 t) (m12 t) (h12 t) (m13 t) (h13 t) (m14 t) (h14 t) h (iblk m c 0 t) (iblk m c 1 t) (iblk m c 2 t) (iblk m c 3 t) (iblk m c 4 t) (iblk m c 5 t) (iblk m c 6 t) x8 x9 x10 x11 x12 x13 x14
    T.S (t.val + 1) x11 x12 ((m13 t).view.read (Elt F) ((m13 t).view.writes (Elt F) ((h13 t).unread x13) r.2.2.1)) ((m14 t).view.read (Elt F) ((m14 t).view.writes (Elt F) ((h14 t).unread x14) r.2.2.2.1))
      ∧ T.R8 t ((m9 t).view.read (Elt F) ((m9 t).view.writes (Elt F) ((h9 t).unread x9) r.1)) ∧ T.R9 t ((m10 t).view.read (Elt F) ((m10 t).view.writes (Elt F) ((h10 t).unread x10) r.2.1))
  idle : ∀ (t : Fin cfg0.N), ¬k0_cond2 (grid0.coords t) = 1#1 → ∀ x8, T.R7 t x8
  last : ∀ (t : Fin cfg0.N) (h : k0_cond2 (grid0.coords t) = 1#1) (x8 : Vec F S256x5120 .bf16) (x11 : Vec F S256x128 .f32) (x12 : Vec F S256x128 .f32) (x13 : Vec F S256x5120 .f32) (x14 : Vec F S256x128 .f32),
    T.S (t.val + 1) x11 x12 x13 x14 →
    T.R7 t ((m8 t).view.read (Elt F) ((m8 t).view.writes (Elt F) ((h8 t).unread x8) (runEnd c (grid0.coords t) (m1 t) (h1 t) (m2 t) (h2 t) (m3 t) (h3 t) (m4 t) (h4 t) (m5 t) (h5 t) (m6 t) (h6 t) (m7 t) (h7 t) (m8 t) (h8 t) (m9 t) (h9 t) (m10 t) (h10 t) (m11 t) (h11 t) (m12 t) (h12 t) (m13 t) (h13 t) (m14 t) (h14 t) h (iblk m c 0 t) (iblk m c 3 t) x8 x11 x12 x13 x14).1))

variable (T : Track F)

/-- The invariant before point `n`: the four scratch buffers at contents the track allows, and the generator register. -/
def inv (n : ℕ) : sProp 𝕄 :=
  iprop((∃ x11 x12 x13 x14, ⌜T.S n x11 x12 x13 x14⌝ ∗ owns (c : Thread nD τ) (Memref.whole cc0_scratch0) fullShare x11
    ∗ owns (c : Thread nD τ) (Memref.whole cc0_scratch1) fullShare x12 ∗ owns (c : Thread nD τ) (Memref.whole cc0_scratch2) fullShare x13
    ∗ owns (c : Thread nD τ) (Memref.whole cc0_scratch3) fullShare x14) ∗ (∃ r, prngReg c r))

/-- What the launch hands over beside the windows: the four scratch buffers at any contents, and the generator register. -/
theorem PhiA_eq : (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- The windows of the three results, the ones held to a relation. -/
def marked : Fin cfg0.W → Bool := fun w => w.val == 7 || w.val == 8 || w.val == 9

/-- The relations, window by window. -/
def rel : (w : Fin cfg0.W) → Fin cfg0.N → ((cfg0.win w).block.Idx → Elt F (cfg0.win w).elt) → Prop
  | ⟨7, _⟩ => T.R7
  | ⟨8, _⟩ => T.R8
  | ⟨9, _⟩ => T.R9
  | _ => fun _ _ => True

/-- The proof data of the one region: the arrays as the region finds them, each input's buffer at its block after every
    point, the invariant above. -/
def dat : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ t := inv c T t.val
  q _ := fullShare
  owed _ := 0

/-- What an array holds before the region. -/
theorem A_eq (w : Fin cfg0.W) : (dat m c T).A w = V m c (Pipeline.arrRef spec0 w) := by dsimp only [dat]
/-- No point changes the codes. -/
theorem after_0 (t : Fin cfg0.N) : (dat m c T).after 0 t = iblk m c 0 t := by dsimp only [dat]
/-- No point changes the input scales. -/
theorem after_1 (t : Fin cfg0.N) : (dat m c T).after 1 t = iblk m c 1 t := by dsimp only [dat]
/-- No point changes the row norms' reciprocals. -/
theorem after_2 (t : Fin cfg0.N) : (dat m c T).after 2 t = iblk m c 2 t := by dsimp only [dat]
/-- No point changes the gains. -/
theorem after_3 (t : Fin cfg0.N) : (dat m c T).after 3 t = iblk m c 3 t := by dsimp only [dat]
/-- No point changes the block of weights. -/
theorem after_4 (t : Fin cfg0.N) : (dat m c T).after 4 t = iblk m c 4 t := by dsimp only [dat]
/-- No point changes the weight scales. -/
theorem after_5 (t : Fin cfg0.N) : (dat m c T).after 5 t = iblk m c 5 t := by dsimp only [dat]
/-- No point changes the incoming gradient. -/
theorem after_6 (t : Fin cfg0.N) : (dat m c T).after 6 t = iblk m c 6 t := by dsimp only [dat]
/-- Every point finds the codes as they are in the array. -/
theorem before_0 (t : Fin cfg0.N) (d) : (dat m c T).before 0 t d = iblk m c 0 t :=
  before0_0_of m (dat m c T) (A_eq m c T 0) (after_0 m c T) t d
/-- Every point finds the input scales as they are in the array. -/
theorem before_1 (t : Fin cfg0.N) (d) : (dat m c T).before 1 t d = iblk m c 1 t :=
  before0_1_of m (dat m c T) (A_eq m c T 1) (after_1 m c T) t d
/-- Every point finds the row norms' reciprocals as they are in the array. -/
theorem before_2 (t : Fin cfg0.N) (d) : (dat m c T).before 2 t d = iblk m c 2 t :=
  before0_2_of m (dat m c T) (A_eq m c T 2) (after_2 m c T) t d
/-- Every point finds the gains as they are in the array. -/
theorem before_3 (t : Fin cfg0.N) (d) : (dat m c T).before 3 t d = iblk m c 3 t :=
  before0_3_of m (dat m c T) (A_eq m c T 3) (after_3 m c T) t d
/-- Every point finds the block of weights as they are in the array. -/
theorem before_4 (t : Fin cfg0.N) (d) : (dat m c T).before 4 t d = iblk m c 4 t :=
  before0_4_of m (dat m c T) (A_eq m c T 4) (after_4 m c T) t d
/-- Every point finds the weight scales as they are in the array. -/
theorem before_5 (t : Fin cfg0.N) (d) : (dat m c T).before 5 t d = iblk m c 5 t :=
  before0_5_of m (dat m c T) (A_eq m c T 5) (after_5 m c T) t d
/-- Every point finds the incoming gradient as they are in the array. -/
theorem before_6 (t : Fin cfg0.N) (d) : (dat m c T).before 6 t d = iblk m c 6 t :=
  before0_6_of m (dat m c T) (A_eq m c T 6) (after_6 m c T) t d

/-- The relational reading of the proof data, the three results held to the track's relations. -/
abbrev rdat : RDat τ (Elt F) Unit ℕ (UR sig nD τ) ℕ cfg0 c := (dat m c T).toRRel marked (rel T)

/-- What the body finds in the buffer of dgamma at a later point is something the point before may have left there. -/
theorem finds_9 (t : Fin cfg0.N) (h : ¬t.val % 20 = 0) (Y) (hY : (rdat m c T).Finds 9 t Y) :
    T.R9 ⟨t.val - 1, Nat.lt_of_le_of_lt (Nat.sub_le _ _) t.isLt⟩ Y := by
  have hN : t.val < 20 := lt_of_lt_of_eq t.isLt (show cfg0.N = 20 from N_0)
  rw [(rdat m c T).finds_of_pos rfl (by omega)] at hY
  rcases hY with hY | hY
  · exact absurd ((flush0_9 _).mp hY) (by dsimp only; omega)
  · exact Dat.toRRel_leaves (dat m c T) (w := 9) rfl hY

/-! ## The body at a point -/

variable (hT : T.Good m c)

include hT in
/-- The last branch, from buffers at contents the track allows: it hands back the invariant of the next point and the
    three results at contents the track's relations hold of. -/
theorem sound_ending (t : Fin cfg0.N) (x8 : Vec F S256x5120 .bf16) (x9 : Vec F S256x8960 .f32) (x10 : Vec F S1x5120 .f32) (x11 : Vec F S256x128 .f32) (x12 : Vec F S256x128 .f32) (x13 : Vec F S256x5120 .f32) (x14 : Vec F S256x128 .f32)
    (hS : T.S (t.val + 1) x11 x12 x13 x14) (hr8 : T.R8 t x9) (hr9 : T.R9 t x10) :
    iprop((∃ r, prngReg c r) ∗ (dat m c T).owesAt () t.succ ∗ owns (c : Thread nD τ) (m1 t) fullShare (iblk m c 0 t) ∗ owns (c : Thread nD τ) (m2 t) fullShare (iblk m c 1 t) ∗ owns (c : Thread nD τ) (m3 t) fullShare (iblk m c 2 t) ∗ owns (c : Thread nD τ) (m4 t) fullShare (iblk m c 3 t) ∗ owns (c : Thread nD τ) (m5 t) fullShare (iblk m c 4 t) ∗ owns (c : Thread nD τ) (m6 t) fullShare (iblk m c 5 t) ∗ owns (c : Thread nD τ) (m7 t) fullShare (iblk m c 6 t) ∗ owns (c : Thread nD τ) (m8 t) fullShare x8 ∗ owns (c : Thread nD τ) (m9 t) fullShare x9 ∗ owns (c : Thread nD τ) (m10 t) fullShare x10 ∗ owns (c : Thread nD τ) (m11 t) fullShare x11 ∗ owns (c : Thread nD τ) (m12 t) fullShare x12 ∗ owns (c : Thread nD τ) (m13 t) fullShare x13 ∗ owns (c : Thread nD τ) (m14 t) fullShare x14)
      ⊢ wp frame (wpE (defs₀ (F := F)) Variants.none c none) Set.univ (ending (F := F) (grid0.coords t) (m1 t) (h1 t) (m2 t) (h2 t) (m3 t) (h3 t) (m4 t) (h4 t) (m5 t) (h5 t) (m6 t) (h6 t) (m7 t) (h7 t) (m8 t) (h8 t) (m9 t) (h9 t) (m10 t) (h10 t) (m11 t) (h11 t) (m12 t) (h12 t) (m13 t) (h13 t) (m14 t) (h14 t))
        fun _ => iprop(inv c T (t.val + 1) ∗ (dat m c T).owesAt () t.succ ∗ owns (c : Thread nD τ) (m1 t) fullShare (iblk m c 0 t) ∗ owns (c : Thread nD τ) (m2 t) fullShare (iblk m c 1 t) ∗ owns (c : Thread nD τ) (m3 t) fullShare (iblk m c 2 t) ∗ owns (c : Thread nD τ) (m4 t) fullShare (iblk m c 3 t) ∗ owns (c : Thread nD τ) (m5 t) fullShare (iblk m c 4 t) ∗ owns (c : Thread nD τ) (m6 t) fullShare (iblk m c 5 t) ∗ owns (c : Thread nD τ) (m7 t) fullShare (iblk m c 6 t)
          ∗ (∃ X, ⌜T.R7 t X⌝ ∗ owns (c : Thread nD τ) (m8 t) fullShare X) ∗ (∃ X, ⌜T.R8 t X⌝ ∗ owns (c : Thread nD τ) (m9 t) fullShare X)
          ∗ (∃ X, ⌜T.R9 t X⌝ ∗ owns (c : Thread nD τ) (m10 t) fullShare X)) := by
  iintro ⟨Hg, Ho, H1, H2, H3, H4, H5, H6, H7, H8, H9, H10, H11, H12, H13, H14⟩
  by_cases h : k0_cond2 (grid0.coords t) = 1#1
  · iapply ((runEnd c (grid0.coords t) (m1 t) (h1 t) (m2 t) (h2 t) (m3 t) (h3 t) (m4 t) (h4 t) (m5 t) (h5 t) (m6 t) (h6 t) (m7 t) (h7 t) (m8 t) (h8 t) (m9 t) (h9 t) (m10 t) (h10 t) (m11 t) (h11 t) (m12 t) (h12 t) (m13 t) (h13 t) (m14 t) (h14 t) h (iblk m c 0 t) (iblk m c 3 t) x8 x11 x12 x13 x14).2 Set.univ _)
    isplitl [H1]; · iexact H1
    isplitl [H4]; · iexact H4
    isplitl [H8]; · iexact H8
    isplitl [H11]; · iexact H11
    isplitl [H12]; · iexact H12
    isplitl [H13]; · iexact H13
    isplitl [H14]; · iexact H14
    iintro ⟨H1, H4, H8, H11, H12, H13, H14⟩
    ihave H8 := (owns_writes c (m8 t) _ _) $$ H8
    unfold inv
    isplitl [Hg H11 H12 H13 H14]
    · isplitl [H11 H12 H13 H14]
      · iexists x11, x12, x13, x14; isplitr; · ipureintro; exact hS
        isplitl [H11]; · iexact H11
        isplitl [H12]; · iexact H12
        isplitl [H13]; · iexact H13
        iexact H14
      iexact Hg
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _; isplitr
      swap; · iexact H8
      ipureintro; exact hT.last t h x8 x11 x12 x13 x14 hS
    isplitl [H9]
    · iexists x9; isplitr; · ipureintro; exact hr8
      iexact H9
    iexists x10; isplitr; · ipureintro; exact hr9
    iexact H10
  · iapply (ending_skip c (grid0.coords t) (m1 t) (h1 t) (m2 t) (h2 t) (m3 t) (h3 t) (m4 t) (h4 t) (m5 t) (h5 t) (m6 t) (h6 t) (m7 t) (h7 t) (m8 t) (h8 t) (m9 t) (h9 t) (m10 t) (h10 t) (m11 t) (h11 t) (m12 t) (h12 t) (m13 t) (h13 t) (m14 t) (h14 t) h Set.univ _)
    unfold inv
    isplitl [Hg H11 H12 H13 H14]
    · isplitl [H11 H12 H13 H14]
      · iexists x11, x12, x13, x14; isplitr; · ipureintro; exact hS
        isplitl [H11]; · iexact H11
        isplitl [H12]; · iexact H12
        isplitl [H13]; · iexact H13
        iexact H14
      iexact Hg
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists x8; isplitr; · ipureintro; exact hT.idle t h x8
      iexact H8
    isplitl [H9]
    · iexists x9; isplitr; · ipureintro; exact hr8
      iexact H9
    iexists x10; isplitr; · ipureintro; exact hr9
    iexact H10

/-- What the body is called with at point `t`, -/
def bodyPre (t : Fin cfg0.N) : sProp 𝕄 :=
  iprop((dat m c T).Φ t.castSucc ∗ (dat m c T).owesAt () t.castSucc
    ∗ (∃ d, owns (c : Thread nD τ) (m1 t) fullShare ((dat m c T).before 0 t d))
    ∗ (∃ d, owns (c : Thread nD τ) (m2 t) fullShare ((dat m c T).before 1 t d))
    ∗ (∃ d, owns (c : Thread nD τ) (m3 t) fullShare ((dat m c T).before 2 t d))
    ∗ (∃ d, owns (c : Thread nD τ) (m4 t) fullShare ((dat m c T).before 3 t d))
    ∗ (∃ d, owns (c : Thread nD τ) (m5 t) fullShare ((dat m c T).before 4 t d))
    ∗ (∃ d, owns (c : Thread nD τ) (m6 t) fullShare ((dat m c T).before 5 t d))
    ∗ (∃ d, owns (c : Thread nD τ) (m7 t) fullShare ((dat m c T).before 6 t d))
    ∗ (∃ Y, ⌜(rdat m c T).Finds 7 t Y⌝ ∗ owns (c : Thread nD τ) (m8 t) fullShare Y)
    ∗ (∃ Y, ⌜(rdat m c T).Finds 8 t Y⌝ ∗ owns (c : Thread nD τ) (m9 t) fullShare Y)
    ∗ (∃ Y, ⌜(rdat m c T).Finds 9 t Y⌝ ∗ owns (c : Thread nD τ) (m10 t) fullShare Y))

/-- and what it returns. -/
def bodyPost (t : Fin cfg0.N) : sProp 𝕄 :=
  iprop((dat m c T).Φ t.succ ∗ (dat m c T).owesAt () t.succ
    ∗ owns (c : Thread nD τ) (m1 t) fullShare ((dat m c T).after 0 t)
    ∗ owns (c : Thread nD τ) (m2 t) fullShare ((dat m c T).after 1 t)
    ∗ owns (c : Thread nD τ) (m3 t) fullShare ((dat m c T).after 2 t)
    ∗ owns (c : Thread nD τ) (m4 t) fullShare ((dat m c T).after 3 t)
    ∗ owns (c : Thread nD τ) (m5 t) fullShare ((dat m c T).after 4 t)
    ∗ owns (c : Thread nD τ) (m6 t) fullShare ((dat m c T).after 5 t)
    ∗ owns (c : Thread nD τ) (m7 t) fullShare ((dat m c T).after 6 t)
    ∗ (∃ X, ⌜T.R7 t X⌝ ∗ owns (c : Thread nD τ) (m8 t) fullShare X)
    ∗ (∃ X, ⌜T.R8 t X⌝ ∗ owns (c : Thread nD τ) (m9 t) fullShare X)
    ∗ (∃ X, ⌜T.R9 t X⌝ ∗ owns (c : Thread nD τ) (m10 t) fullShare X))

include hT in
set_option maxHeartbeats 4000000 in
/-- The body at any point: the first point by `runA`, a later one by `runB`, then the last branch. -/
theorem sound_body (t : Fin cfg0.N) :
    bodyPre m c T t ⊢ wp frame (wpE (defs₀ (F := F)) Variants.none c none) Set.univ (bodyAt0 t) (fun _ => bodyPost m c T t) := by
  unfold bodyPre bodyPost bodyAt0
  simp only [before_0, after_0, before_1, after_1, before_2, after_2, before_3, after_3, before_4, after_4, before_5, after_5, before_6, after_6]
  rw [show (dat m c T).owesAt () t.castSucc = (dat m c T).owesAt () t.succ from rfl]
  rw [show (dat m c T).Φ t.succ = inv c T (t.val + 1) from rfl, show (dat m c T).Φ t.castSucc = inv c T t.val from rfl]
  have hN : t.val < 20 := lt_of_lt_of_eq t.isLt (show cfg0.N = 20 from N_0)
  conv => lhs; unfold inv
  iintro ⟨⟨⟨%x11, %x12, %x13, %x14, %hS, H11, H12, H13, H14⟩, Hg⟩, Ho, ⟨%d1, H1⟩, ⟨%d2, H2⟩, ⟨%d3, H3⟩, ⟨%d4, H4⟩, ⟨%d5, H5⟩, ⟨%d6, H6⟩, ⟨%d7, H7⟩, ⟨%x8, %hx8, H8⟩, ⟨%x9, %hx9, H9⟩, ⟨%x10, %hx10, H10⟩⟩
  by_cases h : first (grid0.coords t) = 1#1
  · have hg := hT.first t h x8 x9 x10 x11 x12 x13 x14
    iapply ((runA c (grid0.coords t) (m1 t) (h1 t) (m2 t) (h2 t) (m3 t) (h3 t) (m4 t) (h4 t) (m5 t) (h5 t) (m6 t) (h6 t) (m7 t) (h7 t) (m8 t) (h8 t) (m9 t) (h9 t) (m10 t) (h10 t) (m11 t) (h11 t) (m12 t) (h12 t) (m13 t) (h13 t) (m14 t) (h14 t) h (iblk m c 0 t) (iblk m c 1 t) (iblk m c 2 t) (iblk m c 3 t) (iblk m c 4 t) (iblk m c 5 t) (iblk m c 6 t) x8 x9 x10 x11 x12 x13 x14).2.2.2.2.2.2 Set.univ _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H1, H2, H3, H4, H5, H6, H7, H8, H9, H10, H11, H12, H13, H14⟩
    ihave H9 := (owns_writes c (m9 t) _ _) $$ H9
    ihave H10 := (owns_writes c (m10 t) _ _) $$ H10
    ihave H11 := (owns_writes c (m11 t) _ _) $$ H11
    ihave H12 := (owns_writes c (m12 t) _ _) $$ H12
    ihave H13 := (owns_writes c (m13 t) _ _) $$ H13
    ihave H14 := (owns_writes c (m14 t) _ _) $$ H14
    iapply (sound_ending m c T hT t _ _ _ _ _ _ _ hg.1 hg.2.1 hg.2.2)
    isplitl [Hg]; · iexact Hg
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · have hg := hT.later t h x8 x9 x10 x11 x12 x13 x14 hS (finds_9 m c T t (fun e => h ((first_iff t).mpr e)) x10 hx10)
    iapply ((runB c (grid0.coords t) (m1 t) (h1 t) (m2 t) (h2 t) (m3 t) (h3 t) (m4 t) (h4 t) (m5 t) (h5 t) (m6 t) (h6 t) (m7 t) (h7 t) (m8 t) (h8 t) (m9 t) (h9 t) (m10 t) (h10 t) (m11 t) (h11 t) (m12 t) (h12 t) (m13 t) (h13 t) (m14 t) (h14 t) h (iblk m c 0 t) (iblk m c 1 t) (iblk m c 2 t) (iblk m c 3 t) (iblk m c 4 t) (iblk m c 5 t) (iblk m c 6 t) x8 x9 x10 x11 x12 x13 x14).2.2.2.2 Set.univ _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H1, H2, H3, H4, H5, H6, H7, H8, H9, H10, H11, H12, H13, H14⟩
    ihave H9 := (owns_writes c (m9 t) _ _) $$ H9
    ihave H10 := (owns_writes c (m10 t) _ _) $$ H10
    ihave H13 := (owns_writes c (m13 t) _ _) $$ H13
    ihave H14 := (owns_writes c (m14 t) _ _) $$ H14
    iapply (sound_ending m c T hT t _ _ _ _ _ _ _ hg.1 hg.2.1 hg.2.2)
    isplitl [Hg]; · iexact Hg
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

include hT in
/-- The library's body obligation. -/
theorem body_obligation : BodyObligationRel (dat m c T) (defs₀ (F := F)) Variants.none () Set.univ marked (rel T) := fun t => by
  rw [bigSep_W0, bigSep_W0, defs₀_row]
  exact triple_restated (sound_body m c T hT t) rfl .rfl fun _ => .rfl

include hT in
/-- What the launch hands the region is the invariant before the first point, -/
theorem hin : Pipeline.ΦA spec0 c ⊢ (rdat m c T).Φ 0 := by
  rw [show (rdat m c T).Φ 0 = inv c T 0 from rfl, PhiA_eq]
  unfold inv
  iintro ⟨⟨⟨%d0, H0⟩, ⟨%d1, H1⟩, ⟨%d2, H2⟩, ⟨%d3, H3⟩⟩, Hg⟩
  isplitl [H0 H1 H2 H3]
  · iexists d0, d1, d2, d3; isplitr; · ipureintro; exact hT.zero _ _ _ _
    isplitl [H0]; · iexact H0
    isplitl [H1]; · iexact H1
    isplitl [H2]; · iexact H2
    iexact H3
  iexact Hg

/-- and the invariant after the last point gives back what the launch handed over. -/
theorem hout : (rdat m c T).Φ (Fin.last cfg0.N) ⊢ Pipeline.ΦA spec0 c := by
  rw [show (rdat m c T).Φ (Fin.last cfg0.N) = inv c T cfg0.N from rfl, PhiA_eq]
  unfold inv
  iintro ⟨⟨%d0, %d1, %d2, %d3, %_, H0, H1, H2, H3⟩, Hg⟩
  isplitl [H0 H1 H2 H3]
  · isplitl [H0]; · iexists _; iexact H0
    isplitl [H1]; · iexists _; iexact H1
    isplitl [H2]; · iexists _; iexact H2
    iexists _; iexact H3
  iexact Hg

end Cert.Kernel.Body

namespace Cert.Kernel.Body
open Cert.Kernel Cert.Kernel.Gen
open Idealize.ShloMosaic Idealize.ShloMosaic.TcCoe
open Idealize.SL.Sem
open Idealize.ShloMosaic.Pipeline (Dat RDat)

variable {F : FTy → Type} [FloatOps F]
variable (m : (ℓ : Loc nD τ sig) → Buf (Elt F) ℓ) (ρ : Dev nD → PrngReg)

/-! ## The whole run -/

set_option backward.isDefEq.respectTransparency.types false in
set_option maxHeartbeats 800000 in
/-- Every execution of the program ends, with every array at contents the proof data allow, every other buffer as it
    was, and every counter at zero. -/
theorem run_main (T : Dev nD → Track F) (hT : ∀ c, (T c).Good m c) :
    θ_run defs (onTc (τ := τ) (main (F := F))) (s₀ m ρ) (fun r => RDat.FramePost (cfgs 0) (fun c => rdat m c (T c)) (V m) r ∧ r.2.sem = fun _ => 0) :=
  Pipeline.RDat.θ_run_frame_track cfgs (0 : Fin 1) launch0 defs₀ Variants.none (fun c => rdat m c (T c)) m ρ main
    (hbody := fun c => (body_obligation m c (T c) (hT c)).toRRel) (hshare := fun c => (dat m c (T c)).share_full fun _ => rfl)
    (howed := fun _ _ => rfl) (V := V m) (hmain := hmain m Variants.none) (hA := fun c => A_eq m c (T c))
    (hin := fun c => hin m c (T c) (hT c)) (hout := fun c => hout m c (T c)) (Q' := _) (hQ' := fun _ h => h)

/-- What the post of the run says of the arguments: they end as launched. -/
theorem args_of (T : Dev nD → Track F) (r : PUnit × MemSt nD τ sig (Elt F)) (h : RDat.FramePost (cfgs 0) (fun c => rdat m c (T c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have h' : RDat.FramePostR (cfgs 0) (fun c => rdat m c (T c)) ∅ (V m) r := fun c => ⟨(h c).1, fun b hb => (h c).2 b (by rwa [Finset.sdiff_empty] at hb)⟩
  exact ⟨((h c).2 main_arg0 (Pipeline.mem_restRefs_of main_arg0 (by decide) (by decide))).trans (V_main_arg0 m c),
    (Pipeline.RDat.FramePostR.arr_in h' c 1 rfl).trans (V_main_arg1 m c),
    (Pipeline.RDat.FramePostR.arr_in h' c 2 rfl).trans (V_main_arg2 m c),
    ((h c).2 main_arg3 (Pipeline.mem_restRefs_of main_arg3 (by decide) (by decide))).trans (V_main_arg3 m c),
    (Pipeline.RDat.FramePostR.arr_in h' c 4 rfl).trans (V_main_arg4 m c),
    (Pipeline.RDat.FramePostR.arr_in h' c 5 rfl).trans (V_main_arg5 m c),
    ((h c).2 main_arg6 (Pipeline.mem_restRefs_of main_arg6 (by decide) (by decide))).trans (V_main_arg6 m c)⟩

/-- The track that says nothing, kept to by every run. -/
def noTrack : Track F := ⟨fun _ _ _ _ _ => True, fun _ _ => True, fun _ _ => True, fun _ _ => True⟩
/-- Every run keeps to the track that says nothing. -/
theorem noTrack_good (c : Dev nD) : (noTrack (F := F)).Good m c :=
  ⟨fun _ _ _ _ => trivial, fun _ _ _ _ _ _ _ _ _ => ⟨trivial, trivial, trivial⟩, fun _ _ _ _ _ _ _ _ _ _ _ => ⟨trivial, trivial, trivial⟩,
    fun _ _ _ => trivial, fun _ _ _ _ _ _ _ _ => trivial⟩

/-- The frame: every execution ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨args_of m (fun _ => noTrack) r h.1, h.2⟩) (run_main m ρ (fun _ => noTrack) (noTrack_good m))

end Cert.Kernel.Body

end
-- ==== Proof.KernelIdeal.Setup.lean ====
module

public import proofs.«01_k».proof.Proof.Gen.KernelIdeal.Frame
public import proofs.«01_k».proof.Proof.Gen.KernelIdeal.Loops

/-! The condition of the kernel body's first branch, as a word of the grid point, and the body's last branch as a
    program of its own: at the last grid point dx is written, 128 columns a trip. -/

@[expose] public section

namespace Cert.KernelIdeal.Body

open Cert.KernelIdeal Cert.KernelIdeal.Gen
open Idealize.ShloMosaic Idealize.ShloMosaic.TcCoe Idealize.SL.Sem

/-- The word the body tests to see whether it is at the first grid point. -/
abbrev first (i : grid0.Coords) : BitVec 1 :=
  Scalar.cmpi .ne (Scalar.extui (Scalar.cmpi .eq (BitVec.ofNat 32 (i 0).val) 0#32) : BitVec 32) 0#32

variable {F : FTy → Type} [FloatOps F] [Named F]

/-- What the body does once the block of the point is done: at the last point it loads the row sums and writes dx. -/
noncomputable def ending (i : grid0.Coords) (arg1 : Memref sig .tc .vmem S256x5120 .fp8e4m3) (harg1 : arg1.IsWhole) (arg2 : Memref sig .tc .vmem S2x128 .f32) (harg2 : arg2.IsWhole) (arg3 : Memref sig .tc .vmem S2x128 .f32) (harg3 : arg3.IsWhole) (arg4 : Memref sig .tc .vmem S1x5120 .f32) (harg4 : arg4.IsWhole) (arg5 : Memref sig .tc .vmem S256x8960 .fp8e4m3) (harg5 : arg5.IsWhole) (arg6 : Memref sig .tc .smem S40x70 .f32) (harg6 : arg6.IsWhole) (arg7 : Memref sig .tc .vmem S256x8960 .bf16) (harg7 : arg7.IsWhole) (arg8 : Memref sig .tc .vmem S256x5120 .bf16) (harg8 : arg8.IsWhole) (arg9 : Memref sig .tc .vmem S256x8960 .f32) (harg9 : arg9.IsWhole) (arg10 : Memref sig .tc .vmem S1x5120 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x5120 .f32) (harg13 : arg13.IsWhole) (arg14 : Memref sig .tc .vmem S256x128 .f32) (harg14 : arg14.IsWhole) : Prog (TpuEff nD τ sig (Elt F) Λ₀ .tc) PUnit := do
  if k0_h2 : k0_cond2 i = 1#1 then do
    let v1623 : Vec F S256x128 .f32 ← Prog.lift (.load arg14 (Rect.unit (s := S256x128) ![0, 0] S256x128.size inb_S256x128_S256x128_0_0).toLoadRect (View.loadsAt_vmem h_S256x128))
    Scf.Loop.for k0_t1_loop (k0_t1_ok i k0_h2) ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 k0_h2 v1623)
    pure ⟨⟩
  else do
    pure ⟨⟩
  pure ⟨⟩

end Cert.KernelIdeal.Body

end
-- ==== Proof.KernelIdeal.RunA.lean ====
module

public import proofs.«01_k».proof.Proof.KernelIdeal.Setup

@[expose] public section

set_option maxRecDepth 16384

noncomputable section

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 2000000 in
/-- One run of the kernel's body at the FIRST grid point: it fills the two column scratches and clears the running row sums.
    From the fourteen buffers it is handed, each whole and at named contents, the body runs up to its last branch (`ending`) and
    has by then the ones it only reads as they were, and each one it stores into with a list of pieces written over what
    it held. The lists (last store first) are found by the run. -/
noncomputable def runA (c : Dev nD) (i : grid0.Coords) (arg1 : Memref sig .tc .vmem S256x5120 .fp8e4m3) (harg1 : arg1.IsWhole) (arg2 : Memref sig .tc .vmem S2x128 .f32) (harg2 : arg2.IsWhole) (arg3 : Memref sig .tc .vmem S2x128 .f32) (harg3 : arg3.IsWhole) (arg4 : Memref sig .tc .vmem S1x5120 .f32) (harg4 : arg4.IsWhole) (arg5 : Memref sig .tc .vmem S256x8960 .fp8e4m3) (harg5 : arg5.IsWhole) (arg6 : Memref sig .tc .smem S40x70 .f32) (harg6 : arg6.IsWhole) (arg7 : Memref sig .tc .vmem S256x8960 .bf16) (harg7 : arg7.IsWhole) (arg8 : Memref sig .tc .vmem S256x5120 .bf16) (harg8 : arg8.IsWhole) (arg9 : Memref sig .tc .vmem S256x8960 .f32) (harg9 : arg9.IsWhole) (arg10 : Memref sig .tc .vmem S1x5120 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x5120 .f32) (harg13 : arg13.IsWhole) (arg14 : Memref sig .tc .vmem S256x128 .f32) (harg14 : arg14.IsWhole) (hc0 : first i = 1#1)
    (x1 : Vec F S256x5120 .fp8e4m3) (x2 : Vec F S2x128 .f32) (x3 : Vec F S2x128 .f32) (x4 : Vec F S1x5120 .f32) (x5 : Vec F S256x8960 .fp8e4m3) (x6 : Vec F S40x70 .f32) (x7 : Vec F S256x8960 .bf16) (x8 : Vec F S256x5120 .bf16) (x9 : Vec F S256x8960 .f32) (x10 : Vec F S1x5120 .f32) (x11 : Vec F S256x128 .f32) (x12 : Vec F S256x128 .f32) (x13 : Vec F S256x5120 .f32) (x14 : Vec F S256x128 .f32) :
    Σ' (L9 : List (View.Piece (Elt F) S256x8960 .f32)), Σ' (L10 : List (View.Piece (Elt F) S1x5120 .f32)), Σ' (L11 : List (View.Piece (Elt F) S256x128 .f32)), Σ' (L12 : List (View.Piece (Elt F) S256x128 .f32)), Σ' (L13 : List (View.Piece (Elt F) S256x5120 .f32)), { L14 : List (View.Piece (Elt F) S256x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (arg9.view.loc (c : Thread nD τ) ↦[arg9.view.set]{fullShare} arg9.view.writes (Elt F) (harg9.unread x9) L9) ∗ (arg10.view.loc (c : Thread nD τ) ↦[arg10.view.set]{fullShare} arg10.view.writes (Elt F) (harg10.unread x10) L10) ∗ (arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread x12) L12) ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14)) -∗ wp frame (wpE (defs₀ (F := F)) Variants.none c none) E (ending (F := F) i arg1 harg1 arg2 harg2 arg3 harg3 arg4 harg4 arg5 harg5 arg6 harg6 arg7 harg7 arg8 harg8 arg9 harg9 arg10 harg10 arg11 harg11 arg12 harg12 arg13 harg13 arg14 harg14) K))
          ⊢ wp frame (wpE (defs₀ (F := F)) Variants.none c none) E (cc0_rmsnorm_qkv_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_rmsnorm_qkv_bwd_eq_skeleton]; unfold cc0_rmsnorm_qkv_bwd_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec_parts (disch := sl_exact hc0)
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexact H9
    isplitl [H10]
    · iexact H10
    isplitl [H11]
    · iexact H11
    isplitl [H12]
    · iexact H12
    isplitl [H13]
    · iexact H13
    iexact H14

end Cert.KernelIdeal.Body

end
-- ==== Proof.KernelIdeal.RunB.lean ====
module

public import proofs.«01_k».proof.Proof.KernelIdeal.Setup

@[expose] public section

set_option maxRecDepth 16384

noncomputable section

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 2000000 in
/-- One run of the kernel's body at a LATER grid point: it finds the two column scratches and the running row sums of the points before.
    From the fourteen buffers it is handed, each whole and at named contents, the body runs up to its last branch (`ending`) and
    has by then the ones it only reads as they were, and each one it stores into with a list of pieces written over what
    it held. The lists (last store first) are found by the run. -/
noncomputable def runB (c : Dev nD) (i : grid0.Coords) (arg1 : Memref sig .tc .vmem S256x5120 .fp8e4m3) (harg1 : arg1.IsWhole) (arg2 : Memref sig .tc .vmem S2x128 .f32) (harg2 : arg2.IsWhole) (arg3 : Memref sig .tc .vmem S2x128 .f32) (harg3 : arg3.IsWhole) (arg4 : Memref sig .tc .vmem S1x5120 .f32) (harg4 : arg4.IsWhole) (arg5 : Memref sig .tc .vmem S256x8960 .fp8e4m3) (harg5 : arg5.IsWhole) (arg6 : Memref sig .tc .smem S40x70 .f32) (harg6 : arg6.IsWhole) (arg7 : Memref sig .tc .vmem S256x8960 .bf16) (harg7 : arg7.IsWhole) (arg8 : Memref sig .tc .vmem S256x5120 .bf16) (harg8 : arg8.IsWhole) (arg9 : Memref sig .tc .vmem S256x8960 .f32) (harg9 : arg9.IsWhole) (arg10 : Memref sig .tc .vmem S1x5120 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x5120 .f32) (harg13 : arg13.IsWhole) (arg14 : Memref sig .tc .vmem S256x128 .f32) (harg14 : arg14.IsWhole) (hc0 : ¬first i = 1#1)
    (x1 : Vec F S256x5120 .fp8e4m3) (x2 : Vec F S2x128 .f32) (x3 : Vec F S2x128 .f32) (x4 : Vec F S1x5120 .f32) (x5 : Vec F S256x8960 .fp8e4m3) (x6 : Vec F S40x70 .f32) (x7 : Vec F S256x8960 .bf16) (x8 : Vec F S256x5120 .bf16) (x9 : Vec F S256x8960 .f32) (x10 : Vec F S1x5120 .f32) (x11 : Vec F S256x128 .f32) (x12 : Vec F S256x128 .f32) (x13 : Vec F S256x5120 .f32) (x14 : Vec F S256x128 .f32) :
    Σ' (L9 : List (View.Piece (Elt F) S256x8960 .f32)), Σ' (L10 : List (View.Piece (Elt F) S1x5120 .f32)), Σ' (L13 : List (View.Piece (Elt F) S256x5120 .f32)), { L14 : List (View.Piece (Elt F) S256x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (arg9.view.loc (c : Thread nD τ) ↦[arg9.view.set]{fullShare} arg9.view.writes (Elt F) (harg9.unread x9) L9) ∗ (arg10.view.loc (c : Thread nD τ) ↦[arg10.view.set]{fullShare} arg10.view.writes (Elt F) (harg10.unread x10) L10) ∗ owns (c : Thread nD τ) arg11 fullShare x11 ∗ owns (c : Thread nD τ) arg12 fullShare x12 ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14)) -∗ wp frame (wpE (defs₀ (F := F)) Variants.none c none) E (ending (F := F) i arg1 harg1 arg2 harg2 arg3 harg3 arg4 harg4 arg5 harg5 arg6 harg6 arg7 harg7 arg8 harg8 arg9 harg9 arg10 harg10 arg11 harg11 arg12 harg12 arg13 harg13 arg14 harg14) K))
          ⊢ wp frame (wpE (defs₀ (F := F)) Variants.none c none) E (cc0_rmsnorm_qkv_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_rmsnorm_qkv_bwd_eq_skeleton]; unfold cc0_rmsnorm_qkv_bwd_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec_parts (disch := sl_exact hc0)
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexact H9
    isplitl [H10]
    · iexact H10
    isplitl [H11]
    · iexists _; isplitr; · ipureintro; exact harg11.read_unread _
      iexact H11
    isplitl [H12]
    · iexists _; isplitr; · ipureintro; exact harg12.read_unread _
      iexact H12
    isplitl [H13]
    · iexact H13
    iexact H14

end Cert.KernelIdeal.Body

end
-- ==== Proof.KernelIdeal.RunEnd.lean ====
module

public import proofs.«01_k».proof.Proof.KernelIdeal.Setup

@[expose] public section

set_option maxRecDepth 16384

noncomputable section

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- At every point but the last, the body's last branch does nothing. -/
theorem ending_skip (c : Dev nD) (i : grid0.Coords) (arg1 : Memref sig .tc .vmem S256x5120 .fp8e4m3) (harg1 : arg1.IsWhole) (arg2 : Memref sig .tc .vmem S2x128 .f32) (harg2 : arg2.IsWhole) (arg3 : Memref sig .tc .vmem S2x128 .f32) (harg3 : arg3.IsWhole) (arg4 : Memref sig .tc .vmem S1x5120 .f32) (harg4 : arg4.IsWhole) (arg5 : Memref sig .tc .vmem S256x8960 .fp8e4m3) (harg5 : arg5.IsWhole) (arg6 : Memref sig .tc .smem S40x70 .f32) (harg6 : arg6.IsWhole) (arg7 : Memref sig .tc .vmem S256x8960 .bf16) (harg7 : arg7.IsWhole) (arg8 : Memref sig .tc .vmem S256x5120 .bf16) (harg8 : arg8.IsWhole) (arg9 : Memref sig .tc .vmem S256x8960 .f32) (harg9 : arg9.IsWhole) (arg10 : Memref sig .tc .vmem S1x5120 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x5120 .f32) (harg13 : arg13.IsWhole) (arg14 : Memref sig .tc .vmem S256x128 .f32) (harg14 : arg14.IsWhole) (h : ¬k0_cond2 i = 1#1) (E : Set ℕ) (K : PUnit → sProp 𝕄) :
    K ⟨⟩ ⊢ wp frame (wpE (defs₀ (F := F)) Variants.none c none) E (ending (F := F) i arg1 harg1 arg2 harg2 arg3 harg3 arg4 harg4 arg5 harg5 arg6 harg6 arg7 harg7 arg8 harg8 arg9 harg9 arg10 harg10 arg11 harg11 arg12 harg12 arg13 harg13 arg14 harg14) K := by
  unfold ending
  iintro H
  sl_exec (disch := sl_exact h)
  sl_step
  iexact H

set_option maxHeartbeats 2000000 in
/-- At the last point, the body's last branch writes dx: the pieces it stores into the buffer of dx (last first) are
    found by the run, trip by trip; everything it reads it hands back as it was. -/
noncomputable def runEnd (c : Dev nD) (i : grid0.Coords) (arg1 : Memref sig .tc .vmem S256x5120 .fp8e4m3) (harg1 : arg1.IsWhole) (arg2 : Memref sig .tc .vmem S2x128 .f32) (harg2 : arg2.IsWhole) (arg3 : Memref sig .tc .vmem S2x128 .f32) (harg3 : arg3.IsWhole) (arg4 : Memref sig .tc .vmem S1x5120 .f32) (harg4 : arg4.IsWhole) (arg5 : Memref sig .tc .vmem S256x8960 .fp8e4m3) (harg5 : arg5.IsWhole) (arg6 : Memref sig .tc .smem S40x70 .f32) (harg6 : arg6.IsWhole) (arg7 : Memref sig .tc .vmem S256x8960 .bf16) (harg7 : arg7.IsWhole) (arg8 : Memref sig .tc .vmem S256x5120 .bf16) (harg8 : arg8.IsWhole) (arg9 : Memref sig .tc .vmem S256x8960 .f32) (harg9 : arg9.IsWhole) (arg10 : Memref sig .tc .vmem S1x5120 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x5120 .f32) (harg13 : arg13.IsWhole) (arg14 : Memref sig .tc .vmem S256x128 .f32) (harg14 : arg14.IsWhole) (h : k0_cond2 i = 1#1)
    (x1 : Vec F S256x5120 .fp8e4m3) (x4 : Vec F S1x5120 .f32) (x8 : Vec F S256x5120 .bf16) (x11 : Vec F S256x128 .f32) (x12 : Vec F S256x128 .f32) (x13 : Vec F S256x5120 .f32) (x14 : Vec F S256x128 .f32) :
    { L8 : List (View.Piece (Elt F) S256x5120 .bf16) //
      ∀ (E : Set ℕ) (K : PUnit → sProp 𝕄),
        iprop(owns (c : Thread nD τ) arg1 fullShare x1 ∗ owns (c : Thread nD τ) arg4 fullShare x4 ∗ owns (c : Thread nD τ) arg8 fullShare x8 ∗ owns (c : Thread nD τ) arg11 fullShare x11 ∗ owns (c : Thread nD τ) arg12 fullShare x12 ∗ owns (c : Thread nD τ) arg13 fullShare x13 ∗ owns (c : Thread nD τ) arg14 fullShare x14
            ∗ (iprop(owns (c : Thread nD τ) arg1 fullShare x1 ∗ owns (c : Thread nD τ) arg4 fullShare x4 ∗ (arg8.view.loc (c : Thread nD τ) ↦[arg8.view.set]{fullShare} arg8.view.writes (Elt F) (harg8.unread x8) L8) ∗ owns (c : Thread nD τ) arg11 fullShare x11 ∗ owns (c : Thread nD τ) arg12 fullShare x12 ∗ owns (c : Thread nD τ) arg13 fullShare x13 ∗ owns (c : Thread nD τ) arg14 fullShare x14) -∗ K ⟨⟩))
          ⊢ wp frame (wpE (defs₀ (F := F)) Variants.none c none) E (ending (F := F) i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    unfold ending
    unfold owns
    iintro ⟨⟨%f1, %hf1, H1⟩, ⟨%f4, %hf4, H4⟩, ⟨%f8, %hf8, H8⟩, ⟨%f11, %hf11, H11⟩, ⟨%f12, %hf12, H12⟩, ⟨%f13, %hf13, H13⟩, ⟨%f14, %hf14, H14⟩, Hk⟩
    obtain rfl := harg1.eq_unread hf1; obtain rfl := harg4.eq_unread hf4; obtain rfl := harg8.eq_unread hf8; obtain rfl := harg11.eq_unread hf11; obtain rfl := harg12.eq_unread hf12; obtain rfl := harg13.eq_unread hf13; obtain rfl := harg14.eq_unread hf14
    sl_exec (disch := sl_exact h)
    sl_step
    iapply Hk
    isplitl [H1]
    · iexists _; isplitr; · ipureintro; exact harg1.read_unread _
      iexact H1
    isplitl [H4]
    · iexists _; isplitr; · ipureintro; exact harg4.read_unread _
      iexact H4
    isplitl [H8]
    · iexact H8
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    iexists _; isplitr; · ipureintro; exact harg14.read_unread _
    iexact H14

end Cert.KernelIdeal.Body

end
-- ==== Proof.KernelIdeal.Sound.lean ====
module

public import proofs.«01_k».proof.Proof.KernelIdeal.RunA
public import proofs.«01_k».proof.Proof.KernelIdeal.RunB
public import proofs.«01_k».proof.Proof.KernelIdeal.RunEnd
public import Idealize.ShloMosaic.Lib.Pipeline.DatRel
public import Idealize.ShloMosaic.Lib.Pipeline.ArrRel

/-! The whole run of the kernel from the runs of its body.

    A `Track` says what is known between grid points: of the four scratch buffers (`S n`, before point `n`), and of what
    the body leaves at a point in the buffers of the three results (`R7` for dx, `R8` for dW, `R9` for dgamma). If every
    run of the body keeps to it (`Track.Good`), the launch theorem of the library gives the run of the whole program:
    the arguments end as they were, every counter is zero, and each result is put together from blocks of which the
    track's relations hold. -/

@[expose] public section

set_option maxRecDepth 16384

noncomputable section

namespace Cert.KernelIdeal.Body
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

/-! ## The branch conditions, as conditions on the number of the point -/

/-- The body is at the first point exactly at point 0. -/
theorem first_iff : ∀ t : Fin cfg0.N, first (grid0.coords t) = 1#1 ↔ t.val % 20 = 0 :=
  (fun t => by
    have ht : t.val < 20 := Nat.lt_of_lt_of_eq t.isLt N_0
    have e0 : (grid0.coords t 0).val = t.val / 1 % 20 := Pipeline.Grid.coords_val t 0 (by decide) rfl
    simp only [first, e0]
    word_cmp
   : ∀ t : Fin grid0.N, first (grid0.coords t) = 1#1 ↔ t.val % 20 = 0)

/-- The last branch is taken exactly at point 19. -/
theorem last_iff : ∀ t : Fin cfg0.N, k0_cond2 (grid0.coords t) = 1#1 ↔ t.val % 20 = 19 :=
  (fun t => by
    have ht : t.val < 20 := Nat.lt_of_lt_of_eq t.isLt N_0
    have e0 : (grid0.coords t 0).val = t.val / 1 % 20 := Pipeline.Grid.coords_val t 0 (by decide) rfl
    simp only [k0_cond2, e0]
    word_cmp
   : ∀ t : Fin grid0.N, k0_cond2 (grid0.coords t) = 1#1 ↔ t.val % 20 = 19)

/-! ## The fourteen buffers the body gets at a point: ten staging buffers, then the four scratch buffers -/

/-- The buffer of the codes. -/
abbrev m1 (t : Fin cfg0.N) : Memref sig .tc .vmem S256x5120 .fp8e4m3 := win0_0.stage (cfg0.slots t 0)
/-- It is a whole buffer. -/
abbrev h1 (t : Fin cfg0.N) : (m1 t).IsWhole := hstage0_0 ((cfg0.slots t 0).cast nbuf0_0)
/-- The buffer of the input scales. -/
abbrev m2 (t : Fin cfg0.N) : Memref sig .tc .vmem S2x128 .f32 := win0_1.stage (cfg0.slots t 1)
/-- It is a whole buffer. -/
abbrev h2 (t : Fin cfg0.N) : (m2 t).IsWhole := hstage0_1 ((cfg0.slots t 1).cast nbuf0_1)
/-- The buffer of the row norms' reciprocals. -/
abbrev m3 (t : Fin cfg0.N) : Memref sig .tc .vmem S2x128 .f32 := win0_2.stage (cfg0.slots t 2)
/-- It is a whole buffer. -/
abbrev h3 (t : Fin cfg0.N) : (m3 t).IsWhole := hstage0_2 ((cfg0.slots t 2).cast nbuf0_2)
/-- The buffer of the gains. -/
abbrev m4 (t : Fin cfg0.N) : Memref sig .tc .vmem S1x5120 .f32 := win0_3.stage (cfg0.slots t 3)
/-- It is a whole buffer. -/
abbrev h4 (t : Fin cfg0.N) : (m4 t).IsWhole := hstage0_3 ((cfg0.slots t 3).cast nbuf0_3)
/-- The buffer of the block of weights. -/
abbrev m5 (t : Fin cfg0.N) : Memref sig .tc .vmem S256x8960 .fp8e4m3 := win0_4.stage (cfg0.slots t 4)
/-- It is a whole buffer. -/
abbrev h5 (t : Fin cfg0.N) : (m5 t).IsWhole := hstage0_4 ((cfg0.slots t 4).cast nbuf0_4)
/-- The buffer of the weight scales. -/
abbrev m6 (t : Fin cfg0.N) : Memref sig .tc .smem S40x70 .f32 := win0_5.stage (cfg0.slots t 5)
/-- It is a whole buffer. -/
abbrev h6 (t : Fin cfg0.N) : (m6 t).IsWhole := hstage0_5 ((cfg0.slots t 5).cast nbuf0_5)
/-- The buffer of the incoming gradient. -/
abbrev m7 (t : Fin cfg0.N) : Memref sig .tc .vmem S256x8960 .bf16 := win0_6.stage (cfg0.slots t 6)
/-- It is a whole buffer. -/
abbrev h7 (t : Fin cfg0.N) : (m7 t).IsWhole := hstage0_6 ((cfg0.slots t 6).cast nbuf0_6)
/-- The buffer of the gradient of the activations. -/
abbrev m8 (t : Fin cfg0.N) : Memref sig .tc .vmem S256x5120 .bf16 := win0_7.stage (cfg0.slots t 7)
/-- It is a whole buffer. -/
abbrev h8 (t : Fin cfg0.N) : (m8 t).IsWhole := hstage0_7 ((cfg0.slots t 7).cast nbuf0_7)
/-- The buffer of the block of the weights' gradient. -/
abbrev m9 (t : Fin cfg0.N) : Memref sig .tc .vmem S256x8960 .f32 := win0_8.stage (cfg0.slots t 8)
/-- It is a whole buffer. -/
abbrev h9 (t : Fin cfg0.N) : (m9 t).IsWhole := hstage0_8 ((cfg0.slots t 8).cast nbuf0_8)
/-- The buffer of the gradient of the gains. -/
abbrev m10 (t : Fin cfg0.N) : Memref sig .tc .vmem S1x5120 .f32 := win0_9.stage (cfg0.slots t 9)
/-- It is a whole buffer. -/
abbrev h10 (t : Fin cfg0.N) : (m10 t).IsWhole := hstage0_9 ((cfg0.slots t 9).cast nbuf0_9)
/-- The buffer of the spread input scales. -/
abbrev m11 (_ : Fin cfg0.N) : Memref sig .tc .vmem S256x128 .f32 := Memref.whole cc0_scratch0
/-- It is a whole buffer. -/
abbrev h11 (t : Fin cfg0.N) : (m11 t).IsWhole := Memref.isWhole_whole _
/-- The buffer of the spread reciprocals. -/
abbrev m12 (_ : Fin cfg0.N) : Memref sig .tc .vmem S256x128 .f32 := Memref.whole cc0_scratch1
/-- It is a whole buffer. -/
abbrev h12 (t : Fin cfg0.N) : (m12 t).IsWhole := Memref.isWhole_whole _
/-- The buffer of the gradient of the scaled activations. -/
abbrev m13 (_ : Fin cfg0.N) : Memref sig .tc .vmem S256x5120 .f32 := Memref.whole cc0_scratch2
/-- It is a whole buffer. -/
abbrev h13 (t : Fin cfg0.N) : (m13 t).IsWhole := Memref.isWhole_whole _
/-- The buffer of the row sums. -/
abbrev m14 (_ : Fin cfg0.N) : Memref sig .tc .vmem S256x128 .f32 := Memref.whole cc0_scratch3
/-- It is a whole buffer. -/
abbrev h14 (t : Fin cfg0.N) : (m14 t).IsWhole := Memref.isWhole_whole _

/-- A whole buffer held with pieces written over its contents is a buffer held at what it then reads. -/
theorem owns_writes {sp : Space} {s : Shape} {e : EltTy} (a : Memref sig .tc sp s e) (f : BufTy.Contents (Elt F) a.view.ty) (L : List (View.Piece (Elt F) s e)) :
    (a.view.loc (c : Thread nD τ) ↦[a.view.set]{fullShare} a.view.writes (Elt F) f L : sProp 𝕄)
      ⊢ owns (c : Thread nD τ) a fullShare (a.view.read (Elt F) (a.view.writes (Elt F) f L)) := by
  unfold owns; iintro H; iexists _; isplitr
  · ipureintro; rfl
  · iexact H

/-! ## What is known between points -/

/-- What is known of the scratch buffers before each point (`S`) and of what a point leaves in the buffers of dx, dW
    and dgamma (`R7`, `R8`, `R9`). -/
structure Track (F : FTy → Type) [FloatOps F] where
  S : ℕ → Vec F S256x128 .f32 → Vec F S256x128 .f32 → Vec F S256x5120 .f32 → Vec F S256x128 .f32 → Prop
  R7 : Fin cfg0.N → Vec F S256x5120 .bf16 → Prop
  R8 : Fin cfg0.N → Vec F S256x8960 .f32 → Prop
  R9 : Fin cfg0.N → Vec F S1x5120 .f32 → Prop

/-- Every run of the body keeps to the track: nothing is known at the start; the first point establishes it, a later
    point carries it on, the last branch establishes what is known of dx, and at the other points nothing is. -/
structure Track.Good (T : Track F) : Prop where
  zero : ∀ x11 x12 x13 x14, T.S 0 x11 x12 x13 x14
  first : ∀ (t : Fin cfg0.N) (h : first (grid0.coords t) = 1#1) (x8 : Vec F S256x5120 .bf16) (x9 : Vec F S256x8960 .f32) (x10 : Vec F S1x5120 .f32) (x11 : Vec F S256x128 .f32) (x12 : Vec F S256x128 .f32) (x13 : Vec F S256x5120 .f32) (x14 : Vec F S256x128 .f32),
    let r := runA c (grid0.coords t) (m1 t) (h1 t) (m2 t) (h2 t) (m3 t) (h3 t) (m4 t) (h4 t) (m5 t) (h5 t) (m6 t) (h6 t) (m7 t) (h7 t) (m8 t) (h8 t) (m9 t) (h9 t) (m10 t) (h10 t) (m11 t) (h11 t) (m12 t) (h12 t) (m13 t) (h13 t) (m14 t) (h14 t) h (iblk m c 0 t) (iblk m c 1 t) (iblk m c 2 t) (iblk m c 3 t) (iblk m c 4 t) (iblk m c 5 t) (iblk m c 6 t) x8 x9 x10 x11 x12 x13 x14
    T.S (t.val + 1) ((m11 t).view.read (Elt F) ((m11 t).view.writes (Elt F) ((h11 t).unread x11) r.2.2.1)) ((m12 t).view.read (Elt F) ((m12 t).view.writes (Elt F) ((h12 t).unread x12) r.2.2.2.1)) ((m13 t).view.read (Elt F) ((m13 t).view.writes (Elt F) ((h13 t).unread x13) r.2.2.2.2.1)) ((m14 t).view.read (Elt F) ((m14 t).view.writes (Elt F) ((h14 t).unread x14) r.2.2.2.2.2.1))
      ∧ T.R8 t ((m9 t).view.read (Elt F) ((m9 t).view.writes (Elt F) ((h9 t).unread x9) r.1)) ∧ T.R9 t ((m10 t).view.read (Elt F) ((m10 t).view.writes (Elt F) ((h10 t).unread x10) r.2.1))
  later : ∀ (t : Fin cfg0.N) (h : ¬Body.first (grid0.coords t) = 1#1) (x8 : Vec F S256x5120 .bf16) (x9 : Vec F S256x8960 .f32) (x10 : Vec F S1x5120 .f32) (x11 : Vec F S256x128 .f32) (x12 : Vec F S256x128 .f32) (x13 : Vec F S256x5120 .f32) (x14 : Vec F S256x128 .f32),
    T.S t.val x11 x12 x13 x14 → T.R9 ⟨t.val - 1, Nat.lt_of_le_of_lt (Nat.sub_le _ _) t.isLt⟩ x10 →
    let r := runB c (grid0.coords t) (m1 t) (h1 t) (m2 t) (h2 t) (m3 t) (h3 t) (m4 t) (h4 t) (m5 t) (h5 t) (m6 t) (h6 t) (m7 t) (h7 t) (m8 t) (h8 t) (m9 t) (h9 t) (m10 t) (h10 t) (m11 t) (h11 t) (m12 t) (h12 t) (m13 t) (h13 t) (m14 t) (h14 t) h (iblk m c 0 t) (iblk m c 1 t) (iblk m c 2 t) (iblk m c 3 t) (iblk m c 4 t) (iblk m c 5 t) (iblk m c 6 t) x8 x9 x10 x11 x12 x13 x14
    T.S (t.val + 1) x11 x12 ((m13 t).view.read (Elt F) ((m13 t).view.writes (Elt F) ((h13 t).unread x13) r.2.2.1)) ((m14 t).view.read (Elt F) ((m14 t).view.writes (Elt F) ((h14 t).unread x14) r.2.2.2.1))
      ∧ T.R8 t ((m9 t).view.read (Elt F) ((m9 t).view.writes (Elt F) ((h9 t).unread x9) r.1)) ∧ T.R9 t ((m10 t).view.read (Elt F) ((m10 t).view.writes (Elt F) ((h10 t).unread x10) r.2.1))
  idle : ∀ (t : Fin cfg0.N), ¬k0_cond2 (grid0.coords t) = 1#1 → ∀ x8, T.R7 t x8
  last : ∀ (t : Fin cfg0.N) (h : k0_cond2 (grid0.coords t) = 1#1) (x8 : Vec F S256x5120 .bf16) (x11 : Vec F S256x128 .f32) (x12 : Vec F S256x128 .f32) (x13 : Vec F S256x5120 .f32) (x14 : Vec F S256x128 .f32),
    T.S (t.val + 1) x11 x12 x13 x14 →
    T.R7 t ((m8 t).view.read (Elt F) ((m8 t).view.writes (Elt F) ((h8 t).unread x8) (runEnd c (grid0.coords t) (m1 t) (h1 t) (m2 t) (h2 t) (m3 t) (h3 t) (m4 t) (h4 t) (m5 t) (h5 t) (m6 t) (h6 t) (m7 t) (h7 t) (m8 t) (h8 t) (m9 t) (h9 t) (m10 t) (h10 t) (m11 t) (h11 t) (m12 t) (h12 t) (m13 t) (h13 t) (m14 t) (h14 t) h (iblk m c 0 t) (iblk m c 3 t) x8 x11 x12 x13 x14).1))

variable (T : Track F)

/-- The invariant before point `n`: the four scratch buffers at contents the track allows, and the generator register. -/
def inv (n : ℕ) : sProp 𝕄 :=
  iprop((∃ x11 x12 x13 x14, ⌜T.S n x11 x12 x13 x14⌝ ∗ owns (c : Thread nD τ) (Memref.whole cc0_scratch0) fullShare x11
    ∗ owns (c : Thread nD τ) (Memref.whole cc0_scratch1) fullShare x12 ∗ owns (c : Thread nD τ) (Memref.whole cc0_scratch2) fullShare x13
    ∗ owns (c : Thread nD τ) (Memref.whole cc0_scratch3) fullShare x14) ∗ (∃ r, prngReg c r))

/-- What the launch hands over beside the windows: the four scratch buffers at any contents, and the generator register. -/
theorem PhiA_eq : (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- The windows of the three results, the ones held to a relation. -/
def marked : Fin cfg0.W → Bool := fun w => w.val == 7 || w.val == 8 || w.val == 9

/-- The relations, window by window. -/
def rel : (w : Fin cfg0.W) → Fin cfg0.N → ((cfg0.win w).block.Idx → Elt F (cfg0.win w).elt) → Prop
  | ⟨7, _⟩ => T.R7
  | ⟨8, _⟩ => T.R8
  | ⟨9, _⟩ => T.R9
  | _ => fun _ _ => True

/-- The proof data of the one region: the arrays as the region finds them, each input's buffer at its block after every
    point, the invariant above. -/
def dat : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ t := inv c T t.val
  q _ := fullShare
  owed _ := 0

/-- What an array holds before the region. -/
theorem A_eq (w : Fin cfg0.W) : (dat m c T).A w = V m c (Pipeline.arrRef spec0 w) := by dsimp only [dat]
/-- No point changes the codes. -/
theorem after_0 (t : Fin cfg0.N) : (dat m c T).after 0 t = iblk m c 0 t := by dsimp only [dat]
/-- No point changes the input scales. -/
theorem after_1 (t : Fin cfg0.N) : (dat m c T).after 1 t = iblk m c 1 t := by dsimp only [dat]
/-- No point changes the row norms' reciprocals. -/
theorem after_2 (t : Fin cfg0.N) : (dat m c T).after 2 t = iblk m c 2 t := by dsimp only [dat]
/-- No point changes the gains. -/
theorem after_3 (t : Fin cfg0.N) : (dat m c T).after 3 t = iblk m c 3 t := by dsimp only [dat]
/-- No point changes the block of weights. -/
theorem after_4 (t : Fin cfg0.N) : (dat m c T).after 4 t = iblk m c 4 t := by dsimp only [dat]
/-- No point changes the weight scales. -/
theorem after_5 (t : Fin cfg0.N) : (dat m c T).after 5 t = iblk m c 5 t := by dsimp only [dat]
/-- No point changes the incoming gradient. -/
theorem after_6 (t : Fin cfg0.N) : (dat m c T).after 6 t = iblk m c 6 t := by dsimp only [dat]
/-- Every point finds the codes as they are in the array. -/
theorem before_0 (t : Fin cfg0.N) (d) : (dat m c T).before 0 t d = iblk m c 0 t :=
  before0_0_of m (dat m c T) (A_eq m c T 0) (after_0 m c T) t d
/-- Every point finds the input scales as they are in the array. -/
theorem before_1 (t : Fin cfg0.N) (d) : (dat m c T).before 1 t d = iblk m c 1 t :=
  before0_1_of m (dat m c T) (A_eq m c T 1) (after_1 m c T) t d
/-- Every point finds the row norms' reciprocals as they are in the array. -/
theorem before_2 (t : Fin cfg0.N) (d) : (dat m c T).before 2 t d = iblk m c 2 t :=
  before0_2_of m (dat m c T) (A_eq m c T 2) (after_2 m c T) t d
/-- Every point finds the gains as they are in the array. -/
theorem before_3 (t : Fin cfg0.N) (d) : (dat m c T).before 3 t d = iblk m c 3 t :=
  before0_3_of m (dat m c T) (A_eq m c T 3) (after_3 m c T) t d
/-- Every point finds the block of weights as they are in the array. -/
theorem before_4 (t : Fin cfg0.N) (d) : (dat m c T).before 4 t d = iblk m c 4 t :=
  before0_4_of m (dat m c T) (A_eq m c T 4) (after_4 m c T) t d
/-- Every point finds the weight scales as they are in the array. -/
theorem before_5 (t : Fin cfg0.N) (d) : (dat m c T).before 5 t d = iblk m c 5 t :=
  before0_5_of m (dat m c T) (A_eq m c T 5) (after_5 m c T) t d
/-- Every point finds the incoming gradient as they are in the array. -/
theorem before_6 (t : Fin cfg0.N) (d) : (dat m c T).before 6 t d = iblk m c 6 t :=
  before0_6_of m (dat m c T) (A_eq m c T 6) (after_6 m c T) t d

/-- The relational reading of the proof data, the three results held to the track's relations. -/
abbrev rdat : RDat τ (Elt F) Unit ℕ (UR sig nD τ) ℕ cfg0 c := (dat m c T).toRRel marked (rel T)

/-- What the body finds in the buffer of dgamma at a later point is something the point before may have left there. -/
theorem finds_9 (t : Fin cfg0.N) (h : ¬t.val % 20 = 0) (Y) (hY : (rdat m c T).Finds 9 t Y) :
    T.R9 ⟨t.val - 1, Nat.lt_of_le_of_lt (Nat.sub_le _ _) t.isLt⟩ Y := by
  have hN : t.val < 20 := lt_of_lt_of_eq t.isLt (show cfg0.N = 20 from N_0)
  rw [(rdat m c T).finds_of_pos rfl (by omega)] at hY
  rcases hY with hY | hY
  · exact absurd ((flush0_9 _).mp hY) (by dsimp only; omega)
  · exact Dat.toRRel_leaves (dat m c T) (w := 9) rfl hY

/-! ## The body at a point -/

variable (hT : T.Good m c)

include hT in
/-- The last branch, from buffers at contents the track allows: it hands back the invariant of the next point and the
    three results at contents the track's relations hold of. -/
theorem sound_ending (t : Fin cfg0.N) (x8 : Vec F S256x5120 .bf16) (x9 : Vec F S256x8960 .f32) (x10 : Vec F S1x5120 .f32) (x11 : Vec F S256x128 .f32) (x12 : Vec F S256x128 .f32) (x13 : Vec F S256x5120 .f32) (x14 : Vec F S256x128 .f32)
    (hS : T.S (t.val + 1) x11 x12 x13 x14) (hr8 : T.R8 t x9) (hr9 : T.R9 t x10) :
    iprop((∃ r, prngReg c r) ∗ (dat m c T).owesAt () t.succ ∗ owns (c : Thread nD τ) (m1 t) fullShare (iblk m c 0 t) ∗ owns (c : Thread nD τ) (m2 t) fullShare (iblk m c 1 t) ∗ owns (c : Thread nD τ) (m3 t) fullShare (iblk m c 2 t) ∗ owns (c : Thread nD τ) (m4 t) fullShare (iblk m c 3 t) ∗ owns (c : Thread nD τ) (m5 t) fullShare (iblk m c 4 t) ∗ owns (c : Thread nD τ) (m6 t) fullShare (iblk m c 5 t) ∗ owns (c : Thread nD τ) (m7 t) fullShare (iblk m c 6 t) ∗ owns (c : Thread nD τ) (m8 t) fullShare x8 ∗ owns (c : Thread nD τ) (m9 t) fullShare x9 ∗ owns (c : Thread nD τ) (m10 t) fullShare x10 ∗ owns (c : Thread nD τ) (m11 t) fullShare x11 ∗ owns (c : Thread nD τ) (m12 t) fullShare x12 ∗ owns (c : Thread nD τ) (m13 t) fullShare x13 ∗ owns (c : Thread nD τ) (m14 t) fullShare x14)
      ⊢ wp frame (wpE (defs₀ (F := F)) Variants.none c none) Set.univ (ending (F := F) (grid0.coords t) (m1 t) (h1 t) (m2 t) (h2 t) (m3 t) (h3 t) (m4 t) (h4 t) (m5 t) (h5 t) (m6 t) (h6 t) (m7 t) (h7 t) (m8 t) (h8 t) (m9 t) (h9 t) (m10 t) (h10 t) (m11 t) (h11 t) (m12 t) (h12 t) (m13 t) (h13 t) (m14 t) (h14 t))
        fun _ => iprop(inv c T (t.val + 1) ∗ (dat m c T).owesAt () t.succ ∗ owns (c : Thread nD τ) (m1 t) fullShare (iblk m c 0 t) ∗ owns (c : Thread nD τ) (m2 t) fullShare (iblk m c 1 t) ∗ owns (c : Thread nD τ) (m3 t) fullShare (iblk m c 2 t) ∗ owns (c : Thread nD τ) (m4 t) fullShare (iblk m c 3 t) ∗ owns (c : Thread nD τ) (m5 t) fullShare (iblk m c 4 t) ∗ owns (c : Thread nD τ) (m6 t) fullShare (iblk m c 5 t) ∗ owns (c : Thread nD τ) (m7 t) fullShare (iblk m c 6 t)
          ∗ (∃ X, ⌜T.R7 t X⌝ ∗ owns (c : Thread nD τ) (m8 t) fullShare X) ∗ (∃ X, ⌜T.R8 t X⌝ ∗ owns (c : Thread nD τ) (m9 t) fullShare X)
          ∗ (∃ X, ⌜T.R9 t X⌝ ∗ owns (c : Thread nD τ) (m10 t) fullShare X)) := by
  iintro ⟨Hg, Ho, H1, H2, H3, H4, H5, H6, H7, H8, H9, H10, H11, H12, H13, H14⟩
  by_cases h : k0_cond2 (grid0.coords t) = 1#1
  · iapply ((runEnd c (grid0.coords t) (m1 t) (h1 t) (m2 t) (h2 t) (m3 t) (h3 t) (m4 t) (h4 t) (m5 t) (h5 t) (m6 t) (h6 t) (m7 t) (h7 t) (m8 t) (h8 t) (m9 t) (h9 t) (m10 t) (h10 t) (m11 t) (h11 t) (m12 t) (h12 t) (m13 t) (h13 t) (m14 t) (h14 t) h (iblk m c 0 t) (iblk m c 3 t) x8 x11 x12 x13 x14).2 Set.univ _)
    isplitl [H1]; · iexact H1
    isplitl [H4]; · iexact H4
    isplitl [H8]; · iexact H8
    isplitl [H11]; · iexact H11
    isplitl [H12]; · iexact H12
    isplitl [H13]; · iexact H13
    isplitl [H14]; · iexact H14
    iintro ⟨H1, H4, H8, H11, H12, H13, H14⟩
    ihave H8 := (owns_writes c (m8 t) _ _) $$ H8
    unfold inv
    isplitl [Hg H11 H12 H13 H14]
    · isplitl [H11 H12 H13 H14]
      · iexists x11, x12, x13, x14; isplitr; · ipureintro; exact hS
        isplitl [H11]; · iexact H11
        isplitl [H12]; · iexact H12
        isplitl [H13]; · iexact H13
        iexact H14
      iexact Hg
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _; isplitr
      swap; · iexact H8
      ipureintro; exact hT.last t h x8 x11 x12 x13 x14 hS
    isplitl [H9]
    · iexists x9; isplitr; · ipureintro; exact hr8
      iexact H9
    iexists x10; isplitr; · ipureintro; exact hr9
    iexact H10
  · iapply (ending_skip c (grid0.coords t) (m1 t) (h1 t) (m2 t) (h2 t) (m3 t) (h3 t) (m4 t) (h4 t) (m5 t) (h5 t) (m6 t) (h6 t) (m7 t) (h7 t) (m8 t) (h8 t) (m9 t) (h9 t) (m10 t) (h10 t) (m11 t) (h11 t) (m12 t) (h12 t) (m13 t) (h13 t) (m14 t) (h14 t) h Set.univ _)
    unfold inv
    isplitl [Hg H11 H12 H13 H14]
    · isplitl [H11 H12 H13 H14]
      · iexists x11, x12, x13, x14; isplitr; · ipureintro; exact hS
        isplitl [H11]; · iexact H11
        isplitl [H12]; · iexact H12
        isplitl [H13]; · iexact H13
        iexact H14
      iexact Hg
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists x8; isplitr; · ipureintro; exact hT.idle t h x8
      iexact H8
    isplitl [H9]
    · iexists x9; isplitr; · ipureintro; exact hr8
      iexact H9
    iexists x10; isplitr; · ipureintro; exact hr9
    iexact H10

/-- What the body is called with at point `t`, -/
def bodyPre (t : Fin cfg0.N) : sProp 𝕄 :=
  iprop((dat m c T).Φ t.castSucc ∗ (dat m c T).owesAt () t.castSucc
    ∗ (∃ d, owns (c : Thread nD τ) (m1 t) fullShare ((dat m c T).before 0 t d))
    ∗ (∃ d, owns (c : Thread nD τ) (m2 t) fullShare ((dat m c T).before 1 t d))
    ∗ (∃ d, owns (c : Thread nD τ) (m3 t) fullShare ((dat m c T).before 2 t d))
    ∗ (∃ d, owns (c : Thread nD τ) (m4 t) fullShare ((dat m c T).before 3 t d))
    ∗ (∃ d, owns (c : Thread nD τ) (m5 t) fullShare ((dat m c T).before 4 t d))
    ∗ (∃ d, owns (c : Thread nD τ) (m6 t) fullShare ((dat m c T).before 5 t d))
    ∗ (∃ d, owns (c : Thread nD τ) (m7 t) fullShare ((dat m c T).before 6 t d))
    ∗ (∃ Y, ⌜(rdat m c T).Finds 7 t Y⌝ ∗ owns (c : Thread nD τ) (m8 t) fullShare Y)
    ∗ (∃ Y, ⌜(rdat m c T).Finds 8 t Y⌝ ∗ owns (c : Thread nD τ) (m9 t) fullShare Y)
    ∗ (∃ Y, ⌜(rdat m c T).Finds 9 t Y⌝ ∗ owns (c : Thread nD τ) (m10 t) fullShare Y))

/-- and what it returns. -/
def bodyPost (t : Fin cfg0.N) : sProp 𝕄 :=
  iprop((dat m c T).Φ t.succ ∗ (dat m c T).owesAt () t.succ
    ∗ owns (c : Thread nD τ) (m1 t) fullShare ((dat m c T).after 0 t)
    ∗ owns (c : Thread nD τ) (m2 t) fullShare ((dat m c T).after 1 t)
    ∗ owns (c : Thread nD τ) (m3 t) fullShare ((dat m c T).after 2 t)
    ∗ owns (c : Thread nD τ) (m4 t) fullShare ((dat m c T).after 3 t)
    ∗ owns (c : Thread nD τ) (m5 t) fullShare ((dat m c T).after 4 t)
    ∗ owns (c : Thread nD τ) (m6 t) fullShare ((dat m c T).after 5 t)
    ∗ owns (c : Thread nD τ) (m7 t) fullShare ((dat m c T).after 6 t)
    ∗ (∃ X, ⌜T.R7 t X⌝ ∗ owns (c : Thread nD τ) (m8 t) fullShare X)
    ∗ (∃ X, ⌜T.R8 t X⌝ ∗ owns (c : Thread nD τ) (m9 t) fullShare X)
    ∗ (∃ X, ⌜T.R9 t X⌝ ∗ owns (c : Thread nD τ) (m10 t) fullShare X))

include hT in
set_option maxHeartbeats 4000000 in
/-- The body at any point: the first point by `runA`, a later one by `runB`, then the last branch. -/
theorem sound_body (t : Fin cfg0.N) :
    bodyPre m c T t ⊢ wp frame (wpE (defs₀ (F := F)) Variants.none c none) Set.univ (bodyAt0 t) (fun _ => bodyPost m c T t) := by
  unfold bodyPre bodyPost bodyAt0
  simp only [before_0, after_0, before_1, after_1, before_2, after_2, before_3, after_3, before_4, after_4, before_5, after_5, before_6, after_6]
  rw [show (dat m c T).owesAt () t.castSucc = (dat m c T).owesAt () t.succ from rfl]
  rw [show (dat m c T).Φ t.succ = inv c T (t.val + 1) from rfl, show (dat m c T).Φ t.castSucc = inv c T t.val from rfl]
  have hN : t.val < 20 := lt_of_lt_of_eq t.isLt (show cfg0.N = 20 from N_0)
  conv => lhs; unfold inv
  iintro ⟨⟨⟨%x11, %x12, %x13, %x14, %hS, H11, H12, H13, H14⟩, Hg⟩, Ho, ⟨%d1, H1⟩, ⟨%d2, H2⟩, ⟨%d3, H3⟩, ⟨%d4, H4⟩, ⟨%d5, H5⟩, ⟨%d6, H6⟩, ⟨%d7, H7⟩, ⟨%x8, %hx8, H8⟩, ⟨%x9, %hx9, H9⟩, ⟨%x10, %hx10, H10⟩⟩
  by_cases h : first (grid0.coords t) = 1#1
  · have hg := hT.first t h x8 x9 x10 x11 x12 x13 x14
    iapply ((runA c (grid0.coords t) (m1 t) (h1 t) (m2 t) (h2 t) (m3 t) (h3 t) (m4 t) (h4 t) (m5 t) (h5 t) (m6 t) (h6 t) (m7 t) (h7 t) (m8 t) (h8 t) (m9 t) (h9 t) (m10 t) (h10 t) (m11 t) (h11 t) (m12 t) (h12 t) (m13 t) (h13 t) (m14 t) (h14 t) h (iblk m c 0 t) (iblk m c 1 t) (iblk m c 2 t) (iblk m c 3 t) (iblk m c 4 t) (iblk m c 5 t) (iblk m c 6 t) x8 x9 x10 x11 x12 x13 x14).2.2.2.2.2.2 Set.univ _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H1, H2, H3, H4, H5, H6, H7, H8, H9, H10, H11, H12, H13, H14⟩
    ihave H9 := (owns_writes c (m9 t) _ _) $$ H9
    ihave H10 := (owns_writes c (m10 t) _ _) $$ H10
    ihave H11 := (owns_writes c (m11 t) _ _) $$ H11
    ihave H12 := (owns_writes c (m12 t) _ _) $$ H12
    ihave H13 := (owns_writes c (m13 t) _ _) $$ H13
    ihave H14 := (owns_writes c (m14 t) _ _) $$ H14
    iapply (sound_ending m c T hT t _ _ _ _ _ _ _ hg.1 hg.2.1 hg.2.2)
    isplitl [Hg]; · iexact Hg
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · have hg := hT.later t h x8 x9 x10 x11 x12 x13 x14 hS (finds_9 m c T t (fun e => h ((first_iff t).mpr e)) x10 hx10)
    iapply ((runB c (grid0.coords t) (m1 t) (h1 t) (m2 t) (h2 t) (m3 t) (h3 t) (m4 t) (h4 t) (m5 t) (h5 t) (m6 t) (h6 t) (m7 t) (h7 t) (m8 t) (h8 t) (m9 t) (h9 t) (m10 t) (h10 t) (m11 t) (h11 t) (m12 t) (h12 t) (m13 t) (h13 t) (m14 t) (h14 t) h (iblk m c 0 t) (iblk m c 1 t) (iblk m c 2 t) (iblk m c 3 t) (iblk m c 4 t) (iblk m c 5 t) (iblk m c 6 t) x8 x9 x10 x11 x12 x13 x14).2.2.2.2 Set.univ _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H1, H2, H3, H4, H5, H6, H7, H8, H9, H10, H11, H12, H13, H14⟩
    ihave H9 := (owns_writes c (m9 t) _ _) $$ H9
    ihave H10 := (owns_writes c (m10 t) _ _) $$ H10
    ihave H13 := (owns_writes c (m13 t) _ _) $$ H13
    ihave H14 := (owns_writes c (m14 t) _ _) $$ H14
    iapply (sound_ending m c T hT t _ _ _ _ _ _ _ hg.1 hg.2.1 hg.2.2)
    isplitl [Hg]; · iexact Hg
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

include hT in
/-- The library's body obligation. -/
theorem body_obligation : BodyObligationRel (dat m c T) (defs₀ (F := F)) Variants.none () Set.univ marked (rel T) := fun t => by
  rw [bigSep_W0, bigSep_W0, defs₀_row]
  exact triple_restated (sound_body m c T hT t) rfl .rfl fun _ => .rfl

include hT in
/-- What the launch hands the region is the invariant before the first point, -/
theorem hin : Pipeline.ΦA spec0 c ⊢ (rdat m c T).Φ 0 := by
  rw [show (rdat m c T).Φ 0 = inv c T 0 from rfl, PhiA_eq]
  unfold inv
  iintro ⟨⟨⟨%d0, H0⟩, ⟨%d1, H1⟩, ⟨%d2, H2⟩, ⟨%d3, H3⟩⟩, Hg⟩
  isplitl [H0 H1 H2 H3]
  · iexists d0, d1, d2, d3; isplitr; · ipureintro; exact hT.zero _ _ _ _
    isplitl [H0]; · iexact H0
    isplitl [H1]; · iexact H1
    isplitl [H2]; · iexact H2
    iexact H3
  iexact Hg

/-- and the invariant after the last point gives back what the launch handed over. -/
theorem hout : (rdat m c T).Φ (Fin.last cfg0.N) ⊢ Pipeline.ΦA spec0 c := by
  rw [show (rdat m c T).Φ (Fin.last cfg0.N) = inv c T cfg0.N from rfl, PhiA_eq]
  unfold inv
  iintro ⟨⟨%d0, %d1, %d2, %d3, %_, H0, H1, H2, H3⟩, Hg⟩
  isplitl [H0 H1 H2 H3]
  · isplitl [H0]; · iexists _; iexact H0
    isplitl [H1]; · iexists _; iexact H1
    isplitl [H2]; · iexists _; iexact H2
    iexists _; iexact H3
  iexact Hg

end Cert.KernelIdeal.Body

namespace Cert.KernelIdeal.Body
open Cert.KernelIdeal Cert.KernelIdeal.Gen
open Idealize.ShloMosaic Idealize.ShloMosaic.TcCoe
open Idealize.SL.Sem
open Idealize.ShloMosaic.Pipeline (Dat RDat)

variable {F : FTy → Type} [FloatOps F] [Named F]
variable (m : (ℓ : Loc nD τ sig) → Buf (Elt F) ℓ) (ρ : Dev nD → PrngReg)

/-! ## The whole run -/

set_option backward.isDefEq.respectTransparency.types false in
set_option maxHeartbeats 800000 in
/-- Every execution of the program ends, with every array at contents the proof data allow, every other buffer as it
    was, and every counter at zero. -/
theorem run_main (T : Dev nD → Track F) (hT : ∀ c, (T c).Good m c) :
    θ_run defs (onTc (τ := τ) (main (F := F))) (s₀ m ρ) (fun r => RDat.FramePost (cfgs 0) (fun c => rdat m c (T c)) (V m) r ∧ r.2.sem = fun _ => 0) :=
  Pipeline.RDat.θ_run_frame_track cfgs (0 : Fin 1) launch0 defs₀ Variants.none (fun c => rdat m c (T c)) m ρ main
    (hbody := fun c => (body_obligation m c (T c) (hT c)).toRRel) (hshare := fun c => (dat m c (T c)).share_full fun _ => rfl)
    (howed := fun _ _ => rfl) (V := V m) (hmain := hmain m Variants.none) (hA := fun c => A_eq m c (T c))
    (hin := fun c => hin m c (T c) (hT c)) (hout := fun c => hout m c (T c)) (Q' := _) (hQ' := fun _ h => h)

/-- What the post of the run says of the arguments: they end as launched. -/
theorem args_of (T : Dev nD → Track F) (r : PUnit × MemSt nD τ sig (Elt F)) (h : RDat.FramePost (cfgs 0) (fun c => rdat m c (T c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have h' : RDat.FramePostR (cfgs 0) (fun c => rdat m c (T c)) ∅ (V m) r := fun c => ⟨(h c).1, fun b hb => (h c).2 b (by rwa [Finset.sdiff_empty] at hb)⟩
  exact ⟨((h c).2 main_arg0 (Pipeline.mem_restRefs_of main_arg0 (by decide) (by decide))).trans (V_main_arg0 m c),
    (Pipeline.RDat.FramePostR.arr_in h' c 1 rfl).trans (V_main_arg1 m c),
    (Pipeline.RDat.FramePostR.arr_in h' c 2 rfl).trans (V_main_arg2 m c),
    ((h c).2 main_arg3 (Pipeline.mem_restRefs_of main_arg3 (by decide) (by decide))).trans (V_main_arg3 m c),
    (Pipeline.RDat.FramePostR.arr_in h' c 4 rfl).trans (V_main_arg4 m c),
    (Pipeline.RDat.FramePostR.arr_in h' c 5 rfl).trans (V_main_arg5 m c),
    ((h c).2 main_arg6 (Pipeline.mem_restRefs_of main_arg6 (by decide) (by decide))).trans (V_main_arg6 m c)⟩

/-- The track that says nothing, kept to by every run. -/
def noTrack : Track F := ⟨fun _ _ _ _ _ => True, fun _ _ => True, fun _ _ => True, fun _ _ => True⟩
/-- Every run keeps to the track that says nothing. -/
theorem noTrack_good (c : Dev nD) : (noTrack (F := F)).Good m c :=
  ⟨fun _ _ _ _ => trivial, fun _ _ _ _ _ _ _ _ _ => ⟨trivial, trivial, trivial⟩, fun _ _ _ _ _ _ _ _ _ _ _ => ⟨trivial, trivial, trivial⟩,
    fun _ _ _ => trivial, fun _ _ _ _ _ _ _ _ => trivial⟩

/-- The frame: every execution ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨args_of m (fun _ => noTrack) r h.1, h.2⟩) (run_main m ρ (fun _ => noTrack) (noTrack_good m))

end Cert.KernelIdeal.Body

end
-- ==== Proof.Problem.lean ====
module

public import Mathlib.Data.EReal.Operations
public import Mathlib.Algebra.BigOperators.Intervals

@[expose] public section

noncomputable section

namespace Cert

/-- What the two programs are given, entry by entry over the extended reals: `x` the activation codes (token, column), `xs` and
`rs` the scale and the reciprocal root mean square of a token, `gain` the gain of a column, `w` the weight codes with the
table `sc` of the scales of their 128 × 128 blocks, and `dq` the incoming gradient (token, output column). -/
structure Problem where
  x : ℕ → ℕ → EReal
  xs : ℕ → EReal
  rs : ℕ → EReal
  gain : ℕ → EReal
  w : ℕ → ℕ → EReal
  sc : ℕ → ℕ → EReal
  dq : ℕ → ℕ → EReal

namespace Problem

variable (P : Problem)

/-- The normalized activation of a token in a column. -/
def n (r d : ℕ) : EReal := P.x r d * P.xs r * P.rs r
/-- … times the gain. -/
def xhat (r d : ℕ) : EReal := P.n r d * P.gain d
/-- A dequantized weight. -/
def wt (d j : ℕ) : EReal := P.w d j * P.sc (d / 128) (j / 128)
/-- The gradient of a weight: over the 256 tokens. -/
def dW (d j : ℕ) : EReal := ∑ r ∈ Finset.range 256, P.xhat r d * P.dq r j
/-- The gradient of `xhat`: over the 8960 output columns. -/
def dxhat (r d : ℕ) : EReal := ∑ j ∈ Finset.range 8960, P.dq r j * P.wt d j
/-- The gradient of a gain. -/
def dgain (d : ℕ) : EReal := ∑ r ∈ Finset.range 256, P.dxhat r d * P.n r d
/-- The summands of the mean over a token's columns. -/
def gn (r d : ℕ) : EReal := P.dxhat r d * P.gain d * P.n r d
/-- That mean, over the 5120 columns. -/
def mean (r : ℕ) : EReal := (∑ d ∈ Finset.range 5120, P.gn r d) * ((1 / 5120 : ℝ) : EReal)
/-- The gradient of an activation. -/
def dx (r d : ℕ) : EReal := P.rs r * (P.dxhat r d * P.gain d - P.n r d * P.mean r)

/-- A sum over blocks of 128 columns, lane by lane, is the sum over the columns. -/
theorem sum_lanes (f : ℕ → EReal) (q : ℕ) :
    ∑ l ∈ Finset.range 128, ∑ k ∈ Finset.range q, f (128 * k + l) = ∑ d ∈ Finset.range (128 * q), f d := by
  rw [Finset.sum_comm]
  induction q with
  | zero => simp
  | succ q ih => rw [Finset.sum_range_succ, ih, Nat.mul_succ, Finset.sum_range_add]

end Problem

end Cert
-- ==== Proof.KernelIdeal.Chunks.lean ====
module

public import proofs.«01_k».proof.Proof.KernelIdeal.Sound

@[expose] public section

set_option maxRecDepth 16384

noncomputable section

namespace Cert.KernelIdeal.Body
open Cert.KernelIdeal Cert.KernelIdeal.Gen
open Idealize.ShloMosaic Idealize.ShloMosaic.TcCoe Idealize.ShloMosaic.Tactic
open Idealize.SL Idealize.SL.Sem

variable {F : FTy → Type} [FloatOps F] [Named F]

/-! The body works through the weight block in 35 chunks of 256 columns. This module writes one chunk as a function of its
number, and the whole as a recursion over the chunks, so that what is proved of one chunk holds for all of them. -/

/-- Where in the table of scales the body looks: row `2 * i + b`, column `k`, the row worked out in words. -/
def scaleOff (i : grid0.Coords) (b : BitVec 32) (k : ℕ) : Fin 2 → ℕ :=
  ![BitVec.toNat (Scalar.indexCast (Scalar.addi (Scalar.muli (BitVec.ofNat 32 ↑(i 0)) 2#32) b)), k]

/-- The row in numbers. -/
theorem scaleOff_zero (i : grid0.Coords) (r : ℕ) (hr : r < 2) (k : ℕ) :
    scaleOff i (BitVec.ofNat 32 r) k = ![2 * (i 0).val + r, k] := by
  have hi : (i 0).val < 20 := (i 0).isLt
  have h : BitVec.toNat (Scalar.indexCast (Scalar.addi (Scalar.muli (BitVec.ofNat 32 ↑(i 0)) 2#32) (BitVec.ofNat 32 r))) = 2 * (i 0).val + r := by
    simp only [Scalar.indexCast, Scalar.addi, Scalar.muli, IntOp.addi, IntOp.muli, BitVec.toNat_add, BitVec.toNat_mul, BitVec.toNat_ofNat]
    omega
  funext a
  match a with
  | ⟨0, _⟩ => exact h
  | ⟨1, _⟩ => rfl

/-- That place lies inside the table. -/
theorem scaleOff_inb (i : grid0.Coords) (r : ℕ) (hr : r < 2) (k : ℕ) (hk : k < 70) :
    ∀ a, scaleOff i (BitVec.ofNat 32 r) k a + S1x1.size a ≤ S40x70.size a := by
  have hi : (i 0).val < 20 := (i 0).isLt
  rw [scaleOff_zero i r hr]
  intro a
  match a with
  | ⟨0, _⟩ => show 2 * (i 0).val + r + 1 ≤ 40; omega
  | ⟨1, _⟩ => show k + 1 ≤ 70; omega

/-- A tile of 128 rows and 128 columns lies inside the weight block. -/
theorem tile_inb (r : ℕ) (hr : r < 2) (k : ℕ) (hk : k < 70) :
    ∀ a, (![128 * r, 128 * k] : Fin 2 → ℕ) a + S128x128.size a ≤ S256x8960.size a := by
  intro a
  match a with
  | ⟨0, _⟩ => show 128 * r + 128 ≤ 256; omega
  | ⟨1, _⟩ => show 128 * k + 128 ≤ 8960; omega

/-- A chunk of 256 columns lies inside the blocks of 8960 columns. -/
theorem chunk_inb (n : ℕ) (hn : n < 35) :
    ∀ a, (![0, 256 * n] : Fin 2 → ℕ) a + S256x256.size a ≤ S256x8960.size a := by
  intro a
  match a with
  | ⟨0, _⟩ => show 0 + 256 ≤ 256; omega
  | ⟨1, _⟩ => show 256 * n + 256 ≤ 8960; omega

section Chunk
variable (i : grid0.Coords) (arg5 : Memref sig .tc .vmem S256x8960 .fp8e4m3) (harg5 : arg5.IsWhole)
  (arg6 : Memref sig .tc .smem S40x70 .f32) (harg6 : arg6.IsWhole) (arg7 : Memref sig .tc .vmem S256x8960 .bf16) (harg7 : arg7.IsWhole)
  (x5 : Vec F S256x8960 .fp8e4m3) (x6 : Vec F S40x70 .f32) (x7 : Vec F S256x8960 .bf16)

/-- One tile of the dequantized weights: 128 × 128 codes times the scale of their block. -/
def tile (r : ℕ) (hr : r < 2) (k : ℕ) (hk : k < 70) : FVec F S128x128 .bf16 :=
  mulf
    (extf .bf16 (View.readAt (Elt F) arg5.view (Rect.unit (s := S256x8960) ![128 * r, 128 * k] S128x128.size (tile_inb r hr k hk)).toLoadRect
      (harg5.unread x5)) bitsLt_fp8e4m3_bf16)
    (truncf .bf16 (broadcast S128x128 (View.readAt (Elt F) arg6.view
      (Rect.unit (s := S40x70) (scaleOff i (BitVec.ofNat 32 r) k) S1x1.size (scaleOff_inb i r hr k hk)).toLoadRect
      (harg6.unread x6) (Shape.Idx.first (Nat.lt_of_lt_of_eq Nat.zero_lt_one numel1_S1x1.symm)))) bitsLt_bf16_f32)

/-- Chunk `n` of the dequantized weights: four tiles side by side and one above the other. -/
def chunk (n : ℕ) (hn : n < 35) : FVec F S256x256 .bf16 :=
  concatenate S256x256 0
    [⟨S128x256, concatenate S128x256 1
        [⟨S128x128, tile i arg5 harg5 arg6 harg6 x5 x6 0 (by decide) (2 * n) (by omega)⟩,
          ⟨S128x128, tile i arg5 harg5 arg6 harg6 x5 x6 0 (by decide) (2 * n + 1) (by omega)⟩]
        concatenates_S128x128_S128x128_S128x256_d1⟩,
      ⟨S128x256, concatenate S128x256 1
        [⟨S128x128, tile i arg5 harg5 arg6 harg6 x5 x6 1 (by decide) (2 * n) (by omega)⟩,
          ⟨S128x128, tile i arg5 harg5 arg6 harg6 x5 x6 1 (by decide) (2 * n + 1) (by omega)⟩]
        concatenates_S128x128_S128x128_S128x256_d1⟩]
    concatenates_S128x256_S128x256_S256x256_d0

/-- Chunk `n` of the incoming gradient. -/
def gradChunk (n : ℕ) (hn : n < 35) : FVec F S256x256 .bf16 :=
  shapeCast S256x256 (View.readAt (Elt F) arg7.view (Rect.unit (s := S256x8960) ![0, 256 * n] S256x256.size (chunk_inb n hn)).toLoadRect
    (harg7.unread x7)) shapeCasts_S256x256_S256x256

/-- The gradient with respect to the normalized activations, after the first `n` chunks. -/
def accs : (n : ℕ) → n ≤ 35 → FVec F S256x256 .f32
  | 0, _ => broadcast S256x256 (Scalar.ofBits .f32 0x00000000#32)
  | n + 1, h => addf (accs n (Nat.le_of_succ_le h))
      (matmul dot_S256x256_S256x256_S256x256_1_1_0_0_n_n none (gradChunk arg7 harg7 x7 n h)
        (chunk i arg5 harg5 arg6 harg6 x5 x6 n h) (constant S256x256 .f32 0x00000000#32))

/-- The pieces of the weight gradient's block that the first `n` chunks store, last first. -/
def dwPieces (xt : FVec F S256x256 .bf16) : (n : ℕ) → n ≤ 35 → List (View.Piece (Elt F) S256x8960 .f32)
  | 0, _ => []
  | n + 1, h => ⟨Rect.unit (s := S256x8960) ![0, 256 * n] S256x256.size (chunk_inb n h),
      matmul dot_S256x256_S256x256_S256x256_1_0_0_1_n_n none xt (gradChunk arg7 harg7 x7 n h) (constant S256x256 .f32 0x00000000#32)⟩
      :: dwPieces xt n (Nat.le_of_succ_le h)

end Chunk

/-! ### One point's stores as functions of what it loads -/

/-- The block of activation codes a point works on. -/
def codesOf (i : grid0.Coords) (arg1 : Memref sig .tc .vmem S256x5120 .fp8e4m3) (harg1 : arg1.IsWhole) (x1 : Vec F S256x5120 .fp8e4m3) :
    Vec F S256x256 .fp8e4m3 :=
  View.readAt (Elt F) arg1.view (Rect.unit (s := S256x5120) (k0_off1 i) S256x256.size (k0_off1_inb i)).toLoadRect (harg1.unread x1)

/-- The gains of the columns a point works on. -/
def gainOf (i : grid0.Coords) (arg4 : Memref sig .tc .vmem S1x5120 .f32) (harg4 : arg4.IsWhole) (x4 : Vec F S1x5120 .f32) : Vec F S1x256 .f32 :=
  View.readAt (Elt F) arg4.view (Rect.unit (s := S1x5120) (k0_off2 i) S1x256.size (k0_off2_inb i)).toLoadRect (harg4.unread x4)

/-- A scratch of one column per lane, as it is loaded whole. -/
def colOf (arg : Memref sig .tc .vmem S256x128 .f32) (harg : arg.IsWhole) (x : Vec F S256x128 .f32) : Vec F S256x128 .f32 :=
  View.readAt (Elt F) arg.view (Rect.unit (s := S256x128) ![0, 0] S256x128.size inb_S256x128_S256x128_0_0).toLoadRect (harg.unread x)

/-- The column sums of `acc * n`: the piece of the gain's gradient. -/
def gainGrad (n acc : FVec F S256x256 .f32) : FVec F S1x256 .f32 :=
  shapeCast S1x256 (multiReduction .add [0] S256 (mulf acc n) 0x00000000#32 reduces_S256x256_S256 (.inl rfl) rfl) shapeCasts_S256_S1x256

/-- The running row sums, lane by lane, with this point's two halves of `acc * gain * n` added. -/
def rowSums (n : FVec F S256x256 .f32) (gain : Vec F S1x256 .f32) (acc : FVec F S256x256 .f32) (old : Vec F S256x128 .f32) : FVec F S256x128 .f32 :=
  k0_pay1 old
    (addf (broadcast S256x128 (Scalar.ofBits .f32 0x00000000#32))
      (extractStridedSlice S256x128 ![0, 0] (mulf (mulf acc (broadcastTo S256x256 (k0_pay9 gain) broadcasts_S1x256_S256x256)) n) slices_S256x256_o0_0_S256x128))
    (extractStridedSlice S256x128 ![0, 128] (mulf (mulf acc (broadcastTo S256x256 (k0_pay9 gain) broadcasts_S1x256_S256x256)) n) slices_S256x256_o0_128_S256x128)

/-- The one piece stored into the gain's gradient. -/
def gainPiece (i : grid0.Coords) (w : FVec F S1x256 .f32) : View.Piece (Elt F) S1x5120 .f32 :=
  ⟨Rect.unit (s := S1x5120) (k0_off2 i) S1x256.size (k0_off2_inb i), w⟩

/-- The one piece stored into the scratch of the gradient with respect to the normalized activations. -/
def gradPiece (i : grid0.Coords) (w : FVec F S256x256 .f32) : View.Piece (Elt F) S256x5120 .f32 :=
  ⟨Rect.unit (s := S256x5120) (k0_off1 i) S256x256.size (k0_off1_inb i), w⟩

/-- A piece that covers the row sums. -/
def sumsPiece (w : FVec F S256x128 .f32) : View.Piece (Elt F) S256x128 .f32 :=
  ⟨Rect.unit (s := S256x128) ![0, 0] S256x128.size inb_S256x128_S256x128_0_0, w⟩

section Runs
variable (c : Dev nD) (i : grid0.Coords) (arg1 : Memref sig .tc .vmem S256x5120 .fp8e4m3) (harg1 : arg1.IsWhole) (arg2 : Memref sig .tc .vmem S2x128 .f32) (harg2 : arg2.IsWhole) (arg3 : Memref sig .tc .vmem S2x128 .f32) (harg3 : arg3.IsWhole) (arg4 : Memref sig .tc .vmem S1x5120 .f32) (harg4 : arg4.IsWhole) (arg5 : Memref sig .tc .vmem S256x8960 .fp8e4m3) (harg5 : arg5.IsWhole) (arg6 : Memref sig .tc .smem S40x70 .f32) (harg6 : arg6.IsWhole) (arg7 : Memref sig .tc .vmem S256x8960 .bf16) (harg7 : arg7.IsWhole) (arg8 : Memref sig .tc .vmem S256x5120 .bf16) (harg8 : arg8.IsWhole) (arg9 : Memref sig .tc .vmem S256x8960 .f32) (harg9 : arg9.IsWhole) (arg10 : Memref sig .tc .vmem S1x5120 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x5120 .f32) (harg13 : arg13.IsWhole) (arg14 : Memref sig .tc .vmem S256x128 .f32) (harg14 : arg14.IsWhole)
  (x1 : Vec F S256x5120 .fp8e4m3) (x2 : Vec F S2x128 .f32) (x3 : Vec F S2x128 .f32) (x4 : Vec F S1x5120 .f32) (x5 : Vec F S256x8960 .fp8e4m3) (x6 : Vec F S40x70 .f32) (x7 : Vec F S256x8960 .bf16) (x8 : Vec F S256x5120 .bf16) (x9 : Vec F S256x8960 .f32) (x10 : Vec F S1x5120 .f32) (x11 : Vec F S256x128 .f32) (x12 : Vec F S256x128 .f32) (x13 : Vec F S256x5120 .f32) (x14 : Vec F S256x128 .f32)

/-- The stores of a LATER point, chunk by chunk. -/
theorem runB_pieces (hc0 : ¬first i = 1#1) :
    (runB c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 x10 x11 x12 x13 x14).1 = dwPieces arg7 harg7 x7 (k0_pay10 (codesOf i arg1 harg1 x1) (colOf arg11 harg11 x11) (colOf arg12 harg12 x12) (gainOf i arg4 harg4 x4)) 35 (Nat.le_refl _)
    ∧ (runB c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 x10 x11 x12 x13 x14).2.1 = [gainPiece i (gainGrad (k0_pay8 (codesOf i arg1 harg1 x1) (colOf arg11 harg11 x11) (colOf arg12 harg12 x12)) (accs i arg5 harg5 arg6 harg6 arg7 harg7 x5 x6 x7 35 (Nat.le_refl _)))]
    ∧ (runB c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 x10 x11 x12 x13 x14).2.2.1 = [gradPiece i (shapeCast S256x256 (accs i arg5 harg5 arg6 harg6 arg7 harg7 x5 x6 x7 35 (Nat.le_refl _)) shapeCasts_S256x256_S256x256)]
    ∧ (runB c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 x10 x11 x12 x13 x14).2.2.2.1 = [sumsPiece (rowSums (k0_pay8 (codesOf i arg1 harg1 x1) (colOf arg11 harg11 x11) (colOf arg12 harg12 x12)) (gainOf i arg4 harg4 x4)
        (accs i arg5 harg5 arg6 harg6 arg7 harg7 x5 x6 x7 35 (Nat.le_refl _)) (colOf arg14 harg14 x14))] := by
  refine ⟨?_, ?_, ?_, ?_⟩ <;> sl_kernel_rfl

/-- The two pieces that spread a 2 × 128 operand over the lanes of a column scratch. -/
def spread (arg : Memref sig .tc .vmem S2x128 .f32) (harg : arg.IsWhole) (x : Vec F S2x128 .f32) : List (View.Piece (Elt F) S256x128 .f32) :=
  [⟨Rect.unit (s := S256x128) ![128, 0] S128x128.size inb_S256x128_S128x128_128_0, k0_pay3 (View.readAt (Elt F) arg.view (Rect.unit (s := S2x128) ![1, 0] S1x128.size inb_S2x128_S1x128_1_0).toLoadRect (harg.unread x))⟩,
    ⟨Rect.unit (s := S256x128) ![0, 0] S128x128.size inb_S256x128_S128x128_0_0, k0_pay3 (View.readAt (Elt F) arg.view (Rect.unit (s := S2x128) ![0, 0] S1x128.size inb_S2x128_S1x128_0_0).toLoadRect (harg.unread x))⟩]

/-- A column scratch as it is loaded after pieces that cover it. -/
def colCov (arg : Memref sig .tc .vmem S256x128 .f32) (L : List (View.Piece (Elt F) S256x128 .f32)) : Vec F S256x128 .f32 :=
  arg.view.readCov L (Rect.unit (s := S256x128) ![0, 0] S256x128.size inb_S256x128_S256x128_0_0).toLoadRect

/-- The stores of the FIRST point, chunk by chunk. -/
theorem runA_pieces (hc0 : first i = 1#1) :
    (runA c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 x10 x11 x12 x13 x14).1 = dwPieces arg7 harg7 x7 (k0_pay10 (codesOf i arg1 harg1 x1) (colCov arg11 (spread arg2 harg2 x2)) (colCov arg12 (spread arg3 harg3 x3)) (gainOf i arg4 harg4 x4)) 35 (Nat.le_refl _)
    ∧ (runA c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 x10 x11 x12 x13 x14).2.1 = [gainPiece i (gainGrad (k0_pay8 (codesOf i arg1 harg1 x1) (colCov arg11 (spread arg2 harg2 x2)) (colCov arg12 (spread arg3 harg3 x3))) (accs i arg5 harg5 arg6 harg6 arg7 harg7 x5 x6 x7 35 (Nat.le_refl _)))]
    ∧ (runA c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 x10 x11 x12 x13 x14).2.2.1 = spread arg2 harg2 x2
    ∧ (runA c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 x10 x11 x12 x13 x14).2.2.2.1 = spread arg3 harg3 x3
    ∧ (runA c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 x10 x11 x12 x13 x14).2.2.2.2.1 = [gradPiece i (shapeCast S256x256 (accs i arg5 harg5 arg6 harg6 arg7 harg7 x5 x6 x7 35 (Nat.le_refl _)) shapeCasts_S256x256_S256x256)]
    ∧ (runA c i arg1 harg1 arg2 harg2 arg3 harg3 arg4 harg4 arg5 harg5 arg6 harg6 arg7 harg7 arg8 harg8 arg9 harg9 arg10 harg10 arg11 harg11 arg12 harg12 arg13 harg13 arg14 harg14 hc0 x1 x2 x3 x4 x5 x6 x7 x8 x9 x10 x11 x12 x13 x14).2.2.2.2.2.1 = [sumsPiece (rowSums (k0_pay8 (codesOf i arg1 harg1 x1) (colCov arg11 (spread arg2 harg2 x2)) (colCov arg12 (spread arg3 harg3 x3))) (gainOf i arg4 harg4 x4)
        (accs i arg5 harg5 arg6 harg6 arg7 harg7 x5 x6 x7 35 (Nat.le_refl _)) (colCov arg14 [sumsPiece k0_pay7])), sumsPiece k0_pay7] := by
  refine ⟨?_, ?_, ?_, ?_, ?_, ?_⟩ <;> sl_kernel_rfl

end Runs

section Last
variable (i : grid0.Coords) (arg1 : Memref sig .tc .vmem S256x5120 .fp8e4m3) (harg1 : arg1.IsWhole) (arg4 : Memref sig .tc .vmem S1x5120 .f32) (harg4 : arg4.IsWhole)
  (arg11 : Memref sig .tc .vmem S256x128 .f32) (harg11 : arg11.IsWhole) (arg12 : Memref sig .tc .vmem S256x128 .f32) (harg12 : arg12.IsWhole)
  (arg13 : Memref sig .tc .vmem S256x5120 .f32) (harg13 : arg13.IsWhole) (arg14 : Memref sig .tc .vmem S256x128 .f32) (harg14 : arg14.IsWhole)
  (h : k0_cond2 i = 1#1)
  (x1 : Vec F S256x5120 .fp8e4m3) (x4 : Vec F S1x5120 .f32) (x11 : Vec F S256x128 .f32) (x12 : Vec F S256x128 .f32) (x13 : Vec F S256x5120 .f32) (x14 : Vec F S256x128 .f32)

/-- What trip `k` of the last branch stores: 128 columns of dx. -/
def dxPiece (k : Fin k0_t1_loop.trips) : View.Piece (Elt F) S256x5120 .bf16 :=
  ⟨Rect.unit (s := S256x5120) (k0_off73 k) S256x128.size (k0_off73_inb i k h),
    k0_pay2 (colOf arg14 harg14 x14)
      (View.readAt (Elt F) arg1.view (Rect.unit (s := S256x5120) (k0_off73 k) S256x128.size (k0_off73_inb i k h)).toLoadRect (harg1.unread x1))
      (colOf arg11 harg11 x11) (colOf arg12 harg12 x12)
      (View.readAt (Elt F) arg13.view (Rect.unit (s := S256x5120) (k0_off73 k) S256x128.size (k0_off73_inb i k h)).toLoadRect (harg13.unread x13))
      (View.readAt (Elt F) arg4.view (Rect.unit (s := S1x5120) (k0_off74 k) S1x128.size (k0_off74_inb i k h)).toLoadRect (harg4.unread x4))
      (colOf arg12 harg12 x12)⟩

/-- What the first `n` trips store, last first. -/
def dxPieces : (n : ℕ) → n ≤ k0_t1_loop.trips → List (View.Piece (Elt F) S256x5120 .bf16)
  | 0, _ => []
  | n + 1, hn => dxPiece i arg1 harg1 arg4 harg4 arg11 harg11 arg12 harg12 arg13 harg13 arg14 harg14 h x1 x4 x11 x12 x13 x14 ⟨n, hn⟩
      :: dxPieces n (Nat.le_of_succ_le hn)

end Last

section LastRun
variable (c : Dev nD) (i : grid0.Coords) (arg1 : Memref sig .tc .vmem S256x5120 .fp8e4m3) (harg1 : arg1.IsWhole) (arg2 : Memref sig .tc .vmem S2x128 .f32) (harg2 : arg2.IsWhole) (arg3 : Memref sig .tc .vmem S2x128 .f32) (harg3 : arg3.IsWhole) (arg4 : Memref sig .tc .vmem S1x5120 .f32) (harg4 : arg4.IsWhole) (arg5 : Memref sig .tc .vmem S256x8960 .fp8e4m3) (harg5 : arg5.IsWhole) (arg6 : Memref sig .tc .smem S40x70 .f32) (harg6 : arg6.IsWhole) (arg7 : Memref sig .tc .vmem S256x8960 .bf16) (harg7 : arg7.IsWhole) (arg8 : Memref sig .tc .vmem S256x5120 .bf16) (harg8 : arg8.IsWhole) (arg9 : Memref sig .tc .vmem S256x8960 .f32) (harg9 : arg9.IsWhole) (arg10 : Memref sig .tc .vmem S1x5120 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x5120 .f32) (harg13 : arg13.IsWhole) (arg14 : Memref sig .tc .vmem S256x128 .f32) (harg14 : arg14.IsWhole)

/-- The stores of the last branch, trip by trip. -/
theorem runEnd_pieces (h : k0_cond2 i = 1#1) (x1 : Vec F S256x5120 .fp8e4m3) (x4 : Vec F S1x5120 .f32) (x8 : Vec F S256x5120 .bf16) (x11 : Vec F S256x128 .f32) (x12 : Vec F S256x128 .f32) (x13 : Vec F S256x5120 .f32) (x14 : Vec F S256x128 .f32) :
    (runEnd c i arg1 harg1 arg2 harg2 arg3 harg3 arg4 harg4 arg5 harg5 arg6 harg6 arg7 harg7 arg8 harg8 arg9 harg9 arg10 harg10 arg11 harg11 arg12 harg12 arg13 harg13 arg14 harg14 h x1 x4 x8 x11 x12 x13 x14).1
      = dxPieces i arg1 harg1 arg4 harg4 arg11 harg11 arg12 harg12 arg13 harg13 arg14 harg14 h x1 x4 x11 x12 x13 x14 k0_t1_loop.trips (Nat.le_refl _) := by
  sl_kernel_rfl

end LastRun

end Cert.KernelIdeal.Body
-- ==== Proof.KernelIdeal.Mat.lean ====
module

public import proofs.«01_k».proof.Proof.KernelIdeal.Chunks
public import Idealize.ShloMosaic.Lib.ValueIdx
public import Idealize.ShloMosaic.Lib.Pointwise
public import Idealize.ShloMosaic.Lib.WritesUnit

@[expose] public section

noncomputable section

namespace Cert.Mat
open Idealize.ShloMosaic Idealize.ShloMosaic.TcCoe
open Cert.KernelIdeal Cert.KernelIdeal.Gen

/-! Matrices over the extended reals, read off by row and column numbers. -/

/-- The entry of a matrix at a row and a column number; zero outside. -/
def at2 {n0 n1 : ℕ} (X : (⟨2, ![n0, n1]⟩ : Shape).Idx → EReal) (a b : ℕ) : EReal :=
  if h : a < n0 ∧ b < n1 then X (ix2 ⟨a, h.1⟩ ⟨b, h.2⟩) else 0

/-- `X` has the entries `f`. -/
def IsMat {n0 n1 : ℕ} (X : (⟨2, ![n0, n1]⟩ : Shape).Idx → EReal) (f : ℕ → ℕ → EReal) : Prop :=
  ∀ (a : Fin n0) (b : Fin n1), X (ix2 a b) = f a.val b.val

/-- Every matrix has its own entries. -/
theorem isMat_at2 {n0 n1 : ℕ} (X : (⟨2, ![n0, n1]⟩ : Shape).Idx → EReal) : IsMat X (at2 X) := fun a b => by
  unfold at2; rw [dif_pos ⟨a.isLt, b.isLt⟩]

/-- The entries of a matrix inside its bounds. -/
theorem at2_eq {n0 n1 : ℕ} {X : (⟨2, ![n0, n1]⟩ : Shape).Idx → EReal} {f : ℕ → ℕ → EReal} (h : IsMat X f) {a b : ℕ} (ha : a < n0) (hb : b < n1) :
    at2 X a b = f a b := by
  unfold at2; rw [dif_pos ⟨ha, hb⟩]; exact h ⟨a, ha⟩ ⟨b, hb⟩

section Ops
variable {n0 n1 : ℕ} {X Y : (⟨2, ![n0, n1]⟩ : Shape).Idx → EReal} {f g : ℕ → ℕ → EReal}

/-- Entries that agree inside the bounds will do. -/
theorem IsMat.congr (h : IsMat X f) (hfg : ∀ a b, a < n0 → b < n1 → f a b = g a b) : IsMat X g :=
  fun a b => (h a b).trans (hfg a.val b.val a.isLt b.isLt)

/-- Two matrices with the same entries are equal. -/
theorem IsMat.ext (h : IsMat X f) (h' : IsMat Y f) : X = Y := by
  funext j; rw [eq_ix2 j]; exact (h _ _).trans (h' _ _).symm

/-- Entrywise products. -/
theorem IsMat.mul {φ : FTy} {X Y : FVec Ideal (⟨2, ![n0, n1]⟩ : Shape) φ} (h : IsMat X f) (h' : IsMat Y g) :
    IsMat (mulf X Y) fun a b => f a b * g a b :=
  fun a b => congrArg₂ (· * ·) (h a b) (h' a b)

/-- Entrywise sums. -/
theorem IsMat.add {φ : FTy} {X Y : FVec Ideal (⟨2, ![n0, n1]⟩ : Shape) φ} (h : IsMat X f) (h' : IsMat Y g) :
    IsMat (addf X Y) fun a b => f a b + g a b :=
  fun a b => congrArg₂ (· + ·) (h a b) (h' a b)

/-- Entrywise differences. -/
theorem IsMat.sub {φ : FTy} {X Y : FVec Ideal (⟨2, ![n0, n1]⟩ : Shape) φ} (h : IsMat X f) (h' : IsMat Y g) :
    IsMat (subf X Y) fun a b => f a b - g a b :=
  fun a b => congrArg₂ (· - ·) (h a b) (h' a b)

/-- Casts between widths are the identity here. -/
theorem IsMat.extf {φ ψ : FTy} {X : FVec Ideal (⟨2, ![n0, n1]⟩ : Shape) φ} (h : IsMat X f) (hw : φ.bits < ψ.bits) :
    IsMat (Idealize.ShloMosaic.extf ψ X hw : FVec Ideal _ ψ) f := h

/-- Casts to a narrower width are the identity here too. -/
theorem IsMat.truncf {φ ψ : FTy} {X : FVec Ideal (⟨2, ![n0, n1]⟩ : Shape) φ} (h : IsMat X f) (hw : ψ.bits < φ.bits) :
    IsMat (Idealize.ShloMosaic.truncf ψ X hw : FVec Ideal _ ψ) f := h

/-- A cast to the same shape changes nothing. -/
theorem IsMat.cast (h : IsMat X f) (hs : (⟨2, ![n0, n1]⟩ : Shape).ShapeCasts ⟨2, ![n0, n1]⟩) : IsMat (shapeCast _ X hs) f := by
  rw [shapeCast_self]; exact h

/-- A scalar at every entry. -/
theorem isMat_broadcast (x : EReal) : IsMat (broadcast (⟨2, ![n0, n1]⟩ : Shape) x) fun _ _ => x := fun _ _ => rfl

/-- The transpose swaps the two coordinates. -/
theorem IsMat.transpose (h : IsMat X f) (ht : (⟨2, ![n0, n1]⟩ : Shape).Transposes [1, 0] (⟨2, ![n1, n0]⟩ : Shape)) :
    IsMat (Idealize.ShloMosaic.transpose (⟨2, ![n1, n0]⟩ : Shape) [1, 0] X ht) fun a b => f b a := fun a b => by
  rw [transpose_apply [1, 0] X ht (ix2 a b) (ix2 b a) (fun c => by match c with | ⟨0, _⟩ => rfl | ⟨1, _⟩ => rfl)]
  exact h b a

/-- One row above all the rows of a larger matrix. -/
theorem IsMat.broadcastRow {m : ℕ} {X : (⟨2, ![1, n1]⟩ : Shape).Idx → EReal} (h : IsMat X f) (hn : n1 ≠ 1)
    (hb : (⟨2, ![1, n1]⟩ : Shape).Broadcasts (⟨2, ![m, n1]⟩ : Shape)) :
    IsMat (broadcastTo (⟨2, ![m, n1]⟩ : Shape) X hb) fun _ b => f 0 b := fun a b => by
  rw [broadcastTo_apply X hb (ix2 a b) (ix2 (0 : Fin 1) b) (fun c => by
    match c with
    | ⟨0, _⟩ => rfl
    | ⟨1, _⟩ => exact (if_neg hn).symm)]
  exact h 0 b

/-- One column along all the columns of a larger matrix. -/
theorem IsMat.broadcastCol {m : ℕ} {X : (⟨2, ![n0, 1]⟩ : Shape).Idx → EReal} (h : IsMat X f) (hn : n0 ≠ 1)
    (hb : (⟨2, ![n0, 1]⟩ : Shape).Broadcasts (⟨2, ![n0, m]⟩ : Shape)) :
    IsMat (broadcastTo (⟨2, ![n0, m]⟩ : Shape) X hb) fun a _ => f a 0 := fun a b => by
  rw [broadcastTo_apply X hb (ix2 a b) (ix2 a (0 : Fin 1)) (fun c => by
    match c with
    | ⟨0, _⟩ => exact (if_neg hn).symm
    | ⟨1, _⟩ => rfl)]
  exact h a 0

/-- The columns from `o` on. -/
theorem IsMat.slice {o m : ℕ} (h : IsMat X f) (hs : (⟨2, ![n0, n1]⟩ : Shape).Slices ![0, o] (⟨2, ![n0, m]⟩ : Shape)) :
    IsMat (extractStridedSlice (⟨2, ![n0, m]⟩ : Shape) ![0, o] X hs) fun a b => f a (o + b) := fun a b => by
  have hb : o + b.val < n1 := Nat.lt_of_lt_of_le (Nat.add_lt_add_left b.isLt o) (hs.2 1)
  have e : extractStridedSlice (⟨2, ![n0, m]⟩ : Shape) ![0, o] X hs (ix2 a b) = X (ix2 a ⟨o + b.val, hb⟩) := by
    show X _ = X _
    refine congrArg X (funext fun c => Fin.ext ?_)
    match c with
    | ⟨0, _⟩ => exact Nat.zero_add _
    | ⟨1, _⟩ => rfl
  rw [e]; exact h a ⟨_, hb⟩

end Ops

/-- Two matrices side by side. -/
theorem isMat_concat1 {n m k t : ℕ} {X : (⟨2, ![n, m]⟩ : Shape).Idx → EReal} {Y : (⟨2, ![n, k]⟩ : Shape).Idx → EReal} {f g : ℕ → ℕ → EReal}
    (hX : IsMat X f) (hY : IsMat Y g) (ht : t = m + k)
    (h : Shape.Concatenates [(⟨2, ![n, m]⟩ : Shape), (⟨2, ![n, k]⟩ : Shape)] (⟨2, ![n, t]⟩ : Shape) 1) :
    IsMat (concatenate (⟨2, ![n, t]⟩ : Shape) 1 [⟨(⟨2, ![n, m]⟩ : Shape), X⟩, ⟨(⟨2, ![n, k]⟩ : Shape), Y⟩] h)
      fun a b => if b < m then f a b else g a (b - m) := fun a b => by
  beta_reduce
  by_cases hb : b.val < m
  · rw [if_pos hb, concatenate_apply_piece 1 [⟨(⟨2, ![n, m]⟩ : Shape), X⟩, ⟨(⟨2, ![n, k]⟩ : Shape), Y⟩] h (ix2 a b) 0 (by simp) _ X rfl rfl 0 rfl (ix2 a ⟨b.val, hb⟩)
      (fun c hc => by match c with | ⟨0, _⟩ => rfl | ⟨1, _⟩ => exact absurd rfl hc) (Nat.zero_add _)]
    exact hX a ⟨b.val, hb⟩
  · have hb' : b.val - m < k := by have := b.isLt; omega
    rw [if_neg hb, concatenate_apply_piece 1 [⟨(⟨2, ![n, m]⟩ : Shape), X⟩, ⟨(⟨2, ![n, k]⟩ : Shape), Y⟩] h (ix2 a b) 1 (by simp) _ Y rfl rfl m (by simp) (ix2 a ⟨b.val - m, hb'⟩)
      (fun c hc => by match c with | ⟨0, _⟩ => rfl | ⟨1, _⟩ => exact absurd rfl hc) (by show m + (b.val - m) = b.val; omega)]
    exact hY a ⟨_, hb'⟩

/-- Two matrices one above the other. -/
theorem isMat_concat0 {n m k t : ℕ} {X : (⟨2, ![m, n]⟩ : Shape).Idx → EReal} {Y : (⟨2, ![k, n]⟩ : Shape).Idx → EReal} {f g : ℕ → ℕ → EReal}
    (hX : IsMat X f) (hY : IsMat Y g) (ht : t = m + k)
    (h : Shape.Concatenates [(⟨2, ![m, n]⟩ : Shape), (⟨2, ![k, n]⟩ : Shape)] (⟨2, ![t, n]⟩ : Shape) 0) :
    IsMat (concatenate (⟨2, ![t, n]⟩ : Shape) 0 [⟨(⟨2, ![m, n]⟩ : Shape), X⟩, ⟨(⟨2, ![k, n]⟩ : Shape), Y⟩] h)
      fun a b => if a < m then f a b else g (a - m) b := fun a b => by
  beta_reduce
  by_cases hb : a.val < m
  · rw [if_pos hb, concatenate_apply_piece 0 [⟨(⟨2, ![m, n]⟩ : Shape), X⟩, ⟨(⟨2, ![k, n]⟩ : Shape), Y⟩] h (ix2 a b) 0 (by simp) _ X rfl rfl 0 rfl (ix2 ⟨a.val, hb⟩ b)
      (fun c hc => by match c with | ⟨0, _⟩ => exact absurd rfl hc | ⟨1, _⟩ => rfl) (Nat.zero_add _)]
    exact hX ⟨a.val, hb⟩ b
  · have hb' : a.val - m < k := by have := a.isLt; omega
    rw [if_neg hb, concatenate_apply_piece 0 [⟨(⟨2, ![m, n]⟩ : Shape), X⟩, ⟨(⟨2, ![k, n]⟩ : Shape), Y⟩] h (ix2 a b) 1 (by simp) _ Y rfl rfl m (by simp) (ix2 ⟨a.val - m, hb'⟩ b)
      (fun c hc => by match c with | ⟨0, _⟩ => exact absurd rfl hc | ⟨1, _⟩ => rfl) (by show m + (a.val - m) = a.val; omega)]
    exact hY ⟨_, hb'⟩ b

/-- A product of two blocks: columns of the left one against rows of the right one. -/
theorem IsMat.matmul {φ ψ : FTy} {X : FVec Ideal S256x256 φ} {Y : FVec Ideal S256x256 ψ} {Z : FVec Ideal S256x256 .f32} {f g e : ℕ → ℕ → EReal}
    (hX : IsMat (n0 := 256) (n1 := 256) X f) (hY : IsMat (n0 := 256) (n1 := 256) Y g) (hZ : IsMat (n0 := 256) (n1 := 256) Z e) :
    IsMat (n0 := 256) (n1 := 256) (Idealize.ShloMosaic.matmul dot_S256x256_S256x256_S256x256_1_0_0_1_n_n none X Y Z)
      fun a b => e a b + ∑ k ∈ Finset.range 256, f a k * g k b := fun a b => by
  have h : Idealize.ShloMosaic.matmul dot_S256x256_S256x256_S256x256_1_0_0_1_n_n none X Y Z (ix2 a b)
      = Z (ix2 a b) + ∑ k : Fin 256, X (ix2 a k) * Y (ix2 k b) := by
    simp only [pointwise]
  rw [h]; beta_reduce; rw [Finset.sum_range]
  exact congrArg₂ (· + ·) (hZ a b) (Finset.sum_congr rfl fun k _ => congrArg₂ (· * ·) (hX a k) (hY k b))

/-- A product of two blocks: columns of the left one against columns of the right one. -/
theorem IsMat.matmulT {φ ψ : FTy} {X : FVec Ideal S256x256 φ} {Y : FVec Ideal S256x256 ψ} {Z : FVec Ideal S256x256 .f32} {f g e : ℕ → ℕ → EReal}
    (hX : IsMat (n0 := 256) (n1 := 256) X f) (hY : IsMat (n0 := 256) (n1 := 256) Y g) (hZ : IsMat (n0 := 256) (n1 := 256) Z e) :
    IsMat (n0 := 256) (n1 := 256) (Idealize.ShloMosaic.matmul dot_S256x256_S256x256_S256x256_1_1_0_0_n_n none X Y Z)
      fun a b => e a b + ∑ k ∈ Finset.range 256, f a k * g b k := fun a b => by
  have h : Idealize.ShloMosaic.matmul dot_S256x256_S256x256_S256x256_1_1_0_0_n_n none X Y Z (ix2 a b)
      = Z (ix2 a b) + ∑ k : Fin 256, X (ix2 a k) * Y (ix2 b k) := by
    simp only [pointwise]
  rw [h]; beta_reduce; rw [Finset.sum_range]
  exact congrArg₂ (· + ·) (hZ a b) (Finset.sum_congr rfl fun k _ => congrArg₂ (· * ·) (hX a k) (hY b k))

/-- The column sums of a block, as a row. -/
theorem IsMat.sumRows {X : FVec Ideal S256x256 .f32} {f : ℕ → ℕ → EReal} (hX : IsMat (n0 := 256) (n1 := 256) X f)
    (h1 : S256x256.Reduces [0] S256) (h2) (h3) (h4 : S256.ShapeCasts S1x256) :
    IsMat (n0 := 1) (n1 := 256) (shapeCast S1x256 (multiReduction .add [0] S256 X 0x00000000#32 h1 h2 h3) h4)
      fun _ b => ∑ k ∈ Finset.range 256, f k b := fun a b => by
  rw [shapeCast_apply _ h4 (ix2 a b) (ix1 b) (by
    have ha := a.isLt
    simp only [Shape.rowMajor_val_one, Shape.rowMajor_val_two]
    show b.val = a.val * 256 + b.val
    omega)]
  have h : multiReduction .add [0] S256 X 0x00000000#32 h1 h2 h3 (ix1 b) = ∑ k : Fin 256, X (ix2 k b) := by
    simp only [pointwise]
  rw [h]; beta_reduce; rw [Finset.sum_range]
  exact Finset.sum_congr rfl fun k _ => hX k b

/-- The row sums of the lanes, as a column. -/
theorem IsMat.sumCols {X : FVec Ideal S256x128 .f32} {f : ℕ → ℕ → EReal} (hX : IsMat (n0 := 256) (n1 := 128) X f)
    (h1 : S256x128.Reduces [1] S256) (h2) (h3) (h4 : S256.ShapeCasts S256x1) :
    IsMat (n0 := 256) (n1 := 1) (shapeCast S256x1 (multiReduction .add [1] S256 X 0x00000000#32 h1 h2 h3) h4)
      fun a _ => ∑ k ∈ Finset.range 128, f a k := fun a b => by
  rw [shapeCast_apply _ h4 (ix2 a b) (ix1 a) (by
    have hb := b.isLt
    simp only [Shape.rowMajor_val_one, Shape.rowMajor_val_two]
    show a.val = a.val * 1 + b.val
    omega)]
  have h : multiReduction .add [1] S256 X 0x00000000#32 h1 h2 h3 (ix1 a) = ∑ k : Fin 128, X (ix2 a k) := by
    simp only [pointwise]
  rw [h]; beta_reduce; rw [Finset.sum_range]
  exact Finset.sum_congr rfl fun k _ => hX a k

/-! ### Loads and stores of a rectangle of a matrix -/

section Memory
variable {n0 n1 s0 s1 : ℕ} {sp : Space} {e : EltTy}

/-- A load of a rectangle from a whole buffer that holds `x`. -/
theorem load_eq {F : FTy → Type} [FloatOps F] (arg : Memref sig .tc sp (⟨2, ![n0, n1]⟩ : Shape) e) (harg : arg.IsWhole)
    (x : Vec F (⟨2, ![n0, n1]⟩ : Shape) e) {off : Fin 2 → ℕ} {o0 o1 : ℕ} (hoff : off = ![o0, o1])
    (inb : ∀ a : Fin 2, off a + (![s0, s1] : Fin 2 → ℕ) a ≤ (⟨2, ![n0, n1]⟩ : Shape).size a) (a : Fin s0) (b : Fin s1)
    (ha : o0 + a.val < n0) (hb : o1 + b.val < n1) :
    View.readAt (Elt F) arg.view (Rect.unit (s := (⟨2, ![n0, n1]⟩ : Shape)) off ![s0, s1] inb).toLoadRect (harg.unread x) (ix2 a b)
      = x (ix2 ⟨o0 + a.val, ha⟩ ⟨o1 + b.val, hb⟩) := by
  subst hoff
  refine (congrFun (View.readAt_eq_ld arg.view (harg.unread x) (Rect.unit (s := (⟨2, ![n0, n1]⟩ : Shape)) ![o0, o1] ![s0, s1] inb)) (ix2 a b)).trans ?_
  rw [harg.read_unread]
  show x _ = x _
  refine congrArg x (funext fun c => Fin.ext ?_)
  match c with
  | ⟨0, _⟩ => show o0 + 1 * a.val = o0 + a.val; omega
  | ⟨1, _⟩ => show o1 + 1 * b.val = o1 + b.val; omega

variable {Val : EltTy → Type} (v : View sig .tc sp (⟨2, ![n0, n1]⟩ : Shape) e) (f : v.ty.Contents Val)

/-- Inside the rectangle stored last, its payload is read. -/
theorem store_hit {off : Fin 2 → ℕ} {o0 o1 : ℕ} (hoff : off = ![o0, o1])
    (inb : ∀ a : Fin 2, off a + (![s0, s1] : Fin 2 → ℕ) a ≤ (⟨2, ![n0, n1]⟩ : Shape).size a)
    (w : (⟨2, ![s0, s1]⟩ : Shape).Idx → Val e) (L : List (View.Piece Val (⟨2, ![n0, n1]⟩ : Shape) e)) (a : Fin n0) (b : Fin n1)
    (a' : Fin s0) (b' : Fin s1) (ha : a.val = o0 + a'.val) (hb : b.val = o1 + b'.val) :
    v.read Val (v.writes Val f (⟨Rect.unit (s := (⟨2, ![n0, n1]⟩ : Shape)) off ![s0, s1] inb, w⟩ :: L)) (ix2 a b) = w (ix2 a' b') :=
  View.read_writes_cons_unit_of_mem v f inb w L (ix2 a b) (ix2 a' b') hoff fun c => by
    match c with
    | ⟨0, _⟩ => exact ha
    | ⟨1, _⟩ => exact hb

/-- Outside its columns, what was there before. -/
theorem store_miss_col {off : Fin 2 → ℕ} {o0 o1 : ℕ} (hoff : off = ![o0, o1])
    (inb : ∀ a : Fin 2, off a + (![s0, s1] : Fin 2 → ℕ) a ≤ (⟨2, ![n0, n1]⟩ : Shape).size a)
    (w : (⟨2, ![s0, s1]⟩ : Shape).Idx → Val e) (L : List (View.Piece Val (⟨2, ![n0, n1]⟩ : Shape) e)) (a : Fin n0) (b : Fin n1)
    (h : b.val < o1 ∨ o1 + s1 ≤ b.val) :
    v.read Val (v.writes Val f (⟨Rect.unit (s := (⟨2, ![n0, n1]⟩ : Shape)) off ![s0, s1] inb, w⟩ :: L)) (ix2 a b)
      = v.read Val (v.writes Val f L) (ix2 a b) :=
  View.read_writes_cons_unit_of_not_mem v f inb w L (ix2 a b) hoff 1 h

/-- Outside its rows, what was there before. -/
theorem store_miss_row {off : Fin 2 → ℕ} {o0 o1 : ℕ} (hoff : off = ![o0, o1])
    (inb : ∀ a : Fin 2, off a + (![s0, s1] : Fin 2 → ℕ) a ≤ (⟨2, ![n0, n1]⟩ : Shape).size a)
    (w : (⟨2, ![s0, s1]⟩ : Shape).Idx → Val e) (L : List (View.Piece Val (⟨2, ![n0, n1]⟩ : Shape) e)) (a : Fin n0) (b : Fin n1)
    (h : a.val < o0 ∨ o0 + s0 ≤ a.val) :
    v.read Val (v.writes Val f (⟨Rect.unit (s := (⟨2, ![n0, n1]⟩ : Shape)) off ![s0, s1] inb, w⟩ :: L)) (ix2 a b)
      = v.read Val (v.writes Val f L) (ix2 a b) :=
  View.read_writes_cons_unit_of_not_mem v f inb w L (ix2 a b) hoff 0 h

end Memory

end Cert.Mat
-- ==== Proof.Operands.lean ====
module

public import proofs.«01_k».proof.Proof.Problem
public import proofs.«01_k».proof.Proof.KernelIdeal.Mat

@[expose] public section

noncomputable section

namespace Cert
open Idealize.ShloMosaic Cert.Mat

/-! The `Problem` of the seven argument arrays: token `r` is position `r % 128` of batch entry `r / 128`. -/

/-- The entries of a vector over all of ℕ, zero outside the bounds. -/
def at1 {n0 : ℕ} (X : (⟨1, ![n0]⟩ : Shape).Idx → EReal) (a : ℕ) : EReal := if h : a < n0 then X (ix1 ⟨a, h⟩) else 0

/-- The entries of an array of rank 3 over all of ℕ, zero outside the bounds. -/
def at3 {n0 n1 n2 : ℕ} (X : (⟨3, ![n0, n1, n2]⟩ : Shape).Idx → EReal) (a b c : ℕ) : EReal :=
  if h : a < n0 ∧ b < n1 ∧ c < n2 then X (ix3 ⟨a, h.1⟩ ⟨b, h.2.1⟩ ⟨c, h.2.2⟩) else 0

/-- The total reading of a vector, inside the vector. -/
theorem at1_eq {n0 : ℕ} (X : (⟨1, ![n0]⟩ : Shape).Idx → EReal) (a : Fin n0) : at1 X a.val = X (ix1 a) := by
  unfold at1; rw [dif_pos a.isLt]

/-- The total reading of a matrix, inside the matrix. -/
theorem at2_fin {n0 n1 : ℕ} (X : (⟨2, ![n0, n1]⟩ : Shape).Idx → EReal) (a : Fin n0) (b : Fin n1) : at2 X a.val b.val = X (ix2 a b) :=
  (isMat_at2 X a b).symm

/-- The total reading of a cube, inside the cube. -/
theorem at3_eq {n0 n1 n2 : ℕ} (X : (⟨3, ![n0, n1, n2]⟩ : Shape).Idx → EReal) (a : Fin n0) (b : Fin n1) (c : Fin n2) :
    at3 X a.val b.val c.val = X (ix3 a b c) := by
  unfold at3; rw [dif_pos ⟨a.isLt, b.isLt, c.isLt⟩]

/-- The problem that the arguments of the two programs pose. -/
def problem (a0 : (⟨3, ![2, 128, 5120]⟩ : Shape).Idx → EReal) (a1 a2 : (⟨2, ![2, 128]⟩ : Shape).Idx → EReal) (a3 : (⟨1, ![5120]⟩ : Shape).Idx → EReal)
    (a4 : (⟨2, ![5120, 8960]⟩ : Shape).Idx → EReal) (a5 : (⟨2, ![40, 70]⟩ : Shape).Idx → EReal) (a6 : (⟨3, ![2, 128, 8960]⟩ : Shape).Idx → EReal) :
    Problem where
  x r d := at3 a0 (r / 128) (r % 128) d
  xs r := at2 a1 (r / 128) (r % 128)
  rs r := at2 a2 (r / 128) (r % 128)
  gain d := at1 a3 d
  w d j := at2 a4 d j
  sc p q := at2 a5 p q
  dq r j := at3 a6 (r / 128) (r % 128) j

/-- Tokens in one axis instead of two. -/
theorem flatten_apply {α : Type} {n2 : ℕ} (X : (⟨3, ![2, 128, n2]⟩ : Shape).Idx → α) (h : (⟨3, ![2, 128, n2]⟩ : Shape).ShapeCasts ⟨2, ![256, n2]⟩) (r : Fin 256) (d : Fin n2) :
    shapeCast (⟨2, ![256, n2]⟩ : Shape) X h (ix2 r d) = X (ix3 ⟨r.val / 128, by omega⟩ ⟨r.val % 128, by omega⟩ d) := by
  refine shapeCast_apply X h _ _ ?_
  rw [Shape.rowMajor_val_two, Shape.rowMajor_val_three]
  show (r.val / 128 * 128 + r.val % 128) * n2 + d.val = r.val * n2 + d.val
  rw [Nat.div_add_mod']

/-- … entry by entry. -/
theorem flatten_mat {n2 : ℕ} (X : (⟨3, ![2, 128, n2]⟩ : Shape).Idx → EReal) (h : (⟨3, ![2, 128, n2]⟩ : Shape).ShapeCasts ⟨2, ![256, n2]⟩) :
    IsMat (n0 := 256) (n1 := n2) (shapeCast (⟨2, ![256, n2]⟩ : Shape) X h) fun r d => at3 X (r / 128) (r % 128) d := fun r d =>
  (flatten_apply X h r d).trans (at3_eq X ⟨r.val / 128, by omega⟩ ⟨r.val % 128, by omega⟩ d).symm

/-- A vector as one row. -/
theorem row_apply {α : Type} {n : ℕ} (X : (⟨1, ![n]⟩ : Shape).Idx → α) (h : (⟨1, ![n]⟩ : Shape).ShapeCasts ⟨2, ![1, n]⟩) (r : Fin 1) (d : Fin n) :
    shapeCast (⟨2, ![1, n]⟩ : Shape) X h (ix2 r d) = X (ix1 d) := by
  refine shapeCast_apply X h _ _ ?_
  rw [Shape.rowMajor_val_two, Shape.rowMajor_val_one]
  show d.val = r.val * n + d.val
  rw [show r.val = 0 by omega]; omega

end Cert
-- ==== Proof.KernelIdeal.Values.lean ====
module

public import proofs.«01_k».proof.Proof.KernelIdeal.Mat
public import proofs.«01_k».proof.Proof.Problem

@[expose] public section

noncomputable section

namespace Cert.KernelIdeal.Body
open Cert.KernelIdeal Cert.KernelIdeal.Gen Cert.Mat
open Idealize.ShloMosaic Idealize.ShloMosaic.TcCoe

/-! What one point loads, computes and stores, at its entries. -/

/-- The first column of the point's 256 columns. -/
theorem k0_off1_eq (i : grid0.Coords) : k0_off1 i = ![0, 256 * (i 0).val] := by
  have hi : (i 0).val < 20 := (i 0).isLt
  have h : BitVec.toNat (Scalar.indexCast (Scalar.muli (BitVec.ofNat 32 ↑(i 0)) 256#32)) = 256 * (i 0).val := by
    simp only [Scalar.indexCast, Scalar.muli, IntOp.muli, BitVec.toNat_mul, BitVec.toNat_ofNat]
    omega
  funext a
  match a with
  | ⟨0, _⟩ => rfl
  | ⟨1, _⟩ => exact h

/-- Where a point reads the gains: its own 256 columns. -/
theorem k0_off2_eq (i : grid0.Coords) : k0_off2 i = ![0, 256 * (i 0).val] := k0_off1_eq i

variable (P : Problem) (i : grid0.Coords) (t : ℕ) (hi : (i 0).val = t)

section Loads
variable {F : FTy → Type} [FloatOps F]
variable (arg1 : Memref sig .tc .vmem S256x5120 .fp8e4m3) (harg1 : arg1.IsWhole) (arg4 : Memref sig .tc .vmem S1x5120 .f32) (harg4 : arg4.IsWhole)
  (arg11 : Memref sig .tc .vmem S256x128 .f32) (harg11 : arg11.IsWhole)
include hi

/-- The point's columns of the codes. -/
theorem codesOf_mat {x1 : Vec Ideal S256x5120 .fp8e4m3} (h : IsMat (n0 := 256) (n1 := 5120) x1 P.x) :
    IsMat (n0 := 256) (n1 := 256) (codesOf i arg1 harg1 x1) fun a b => P.x a (256 * t + b) := fun a b => by
  subst hi
  have hlt : (i 0).val < 20 := (i 0).isLt
  refine (load_eq arg1 harg1 x1 (k0_off1_eq i) (k0_off1_inb i) a b (by omega) (by omega)).trans ?_
  refine (h _ _).trans ?_
  show P.x (0 + a.val) _ = _
  rw [Nat.zero_add]

/-- The point's columns of the gains. -/
theorem gainOf_mat {x4 : Vec Ideal S1x5120 .f32} (h : IsMat (n0 := 1) (n1 := 5120) x4 fun _ b => P.gain b) :
    IsMat (n0 := 1) (n1 := 256) (gainOf i arg4 harg4 x4) fun _ b => P.gain (256 * t + b) := fun a b => by
  subst hi
  have hlt : (i 0).val < 20 := (i 0).isLt
  exact (load_eq arg4 harg4 x4 (k0_off2_eq i) (k0_off2_inb i) a b (by omega) (by omega)).trans (h _ _)

omit hi in
/-- A column of scales spread over 256 lanes, from one spread over 128. -/
theorem colOf_mat {x : Vec Ideal S256x128 .f32} {f : ℕ → ℕ → EReal} (h : IsMat (n0 := 256) (n1 := 128) x f) :
    IsMat (n0 := 256) (n1 := 128) (colOf arg11 harg11 x) f := fun a b => by
  refine (load_eq arg11 harg11 x rfl inb_S256x128_S256x128_0_0 a b (by omega) (by omega)).trans ?_
  refine (h _ _).trans ?_
  show f (0 + a.val) (0 + b.val) = _
  rw [Nat.zero_add, Nat.zero_add]

end Loads

section Normalized
variable {v : Vec Ideal S256x256 .fp8e4m3} {xs rs : Vec Ideal S256x128 .f32} {gain : Vec Ideal S1x256 .f32}
  (hv : IsMat (n0 := 256) (n1 := 256) v fun a b => P.x a (256 * t + b))
  (hxs : IsMat (n0 := 256) (n1 := 128) xs fun a _ => P.xs a) (hrs : IsMat (n0 := 256) (n1 := 128) rs fun a _ => P.rs a)
  (hg : IsMat (n0 := 1) (n1 := 256) gain fun _ b => P.gain (256 * t + b))
include hv hxs hrs

/-- The point's columns of the normalized activations. -/
theorem n_mat : IsMat (n0 := 256) (n1 := 256) (k0_pay8 v xs rs) fun a b => P.n a (256 * t + b) := by
  refine IsMat.congr (IsMat.mul (φ := .f32) (IsMat.mul (φ := .f32) (IsMat.extf (φ := .fp8e4m3) (IsMat.cast hv shapeCasts_S256x256_S256x256) bitsLt_fp8e4m3_f32)
      (isMat_concat1 hxs hxs rfl concatenates_S256x128_S256x128_S256x256_d1))
      (isMat_concat1 hrs hrs rfl concatenates_S256x128_S256x128_S256x256_d1)) ?_
  intro a b _ _
  simp only [ite_self]
  rfl

include hg in
/-- The point's columns of the scaled activations, transposed. -/
theorem xt_mat : IsMat (n0 := 256) (n1 := 256) (k0_pay10 v xs rs gain) fun a b => P.xhat b (256 * t + a) :=
  IsMat.transpose (IsMat.truncf (φ := .f32) (IsMat.mul (φ := .f32) (n_mat P t hv hxs hrs)
    (IsMat.broadcastRow (IsMat.cast hg shapeCasts_S1x256_S1x256) (by decide) broadcasts_S1x256_S256x256)) bitsLt_bf16_f32) transposes_S256x256_p1_0_S256x256

end Normalized

section Chunks
variable (arg5 : Memref sig .tc .vmem S256x8960 .fp8e4m3) (harg5 : arg5.IsWhole)
  (arg6 : Memref sig .tc .smem S40x70 .f32) (harg6 : arg6.IsWhole) (arg7 : Memref sig .tc .vmem S256x8960 .bf16) (harg7 : arg7.IsWhole)
  {x5 : Vec Ideal S256x8960 .fp8e4m3} {x6 : Vec Ideal S40x70 .f32} {x7 : Vec Ideal S256x8960 .bf16}
  (h5 : IsMat (n0 := 256) (n1 := 8960) x5 fun a b => P.w (256 * t + a) b) (h6 : IsMat (n0 := 40) (n1 := 70) x6 P.sc)
  (h7 : IsMat (n0 := 256) (n1 := 8960) x7 P.dq)

include hi h5 h6 in
/-- A tile of 128 by 128 weights: the codes times the scale of their block. -/
theorem tile_mat (r : ℕ) (hr : r < 2) (k : ℕ) (hk : k < 70) :
    IsMat (n0 := 128) (n1 := 128) (tile i arg5 harg5 arg6 harg6 x5 x6 r hr k hk)
      fun a b => P.w (256 * t + (128 * r + a)) (128 * k + b) * P.sc (2 * t + r) k := fun a b => by
  subst hi
  have hlt : (i 0).val < 20 := (i 0).isLt
  refine congrArg₂ (· * ·) ?_ ?_
  · exact (load_eq arg5 harg5 x5 rfl (tile_inb r hr k hk) a b (by omega) (by omega)).trans (h5 _ _)
  · have e := load_eq arg6 harg6 x6 (scaleOff_zero i r hr k) (scaleOff_inb i r hr k hk) (0 : Fin 1) (0 : Fin 1)
      (show 2 * (i 0).val + r + 0 < 40 by omega) (show k + 0 < 70 by omega)
    refine Eq.trans ?_ (e.trans ((h6 _ _).trans rfl))
    show View.readAt (Elt Ideal) arg6.view _ _ _ = _
    refine congrArg _ (funext fun c => Fin.ext ?_)
    match c with
    | ⟨0, _⟩ => rfl
    | ⟨1, _⟩ => rfl

include hi h5 h6 in
/-- A chunk of 256 by 256 dequantized weights, put together from four tiles. -/
theorem chunk_mat (n : ℕ) (hn : n < 35) :
    IsMat (n0 := 256) (n1 := 256) (chunk i arg5 harg5 arg6 harg6 x5 x6 n hn) fun a b => P.wt (256 * t + a) (256 * n + b) := by
  refine IsMat.congr (isMat_concat0
    (isMat_concat1 (tile_mat P i t hi arg5 harg5 arg6 harg6 h5 h6 0 (by decide) (2 * n) (by omega))
      (tile_mat P i t hi arg5 harg5 arg6 harg6 h5 h6 0 (by decide) (2 * n + 1) (by omega)) rfl concatenates_S128x128_S128x128_S128x256_d1)
    (isMat_concat1 (tile_mat P i t hi arg5 harg5 arg6 harg6 h5 h6 1 (by decide) (2 * n) (by omega))
      (tile_mat P i t hi arg5 harg5 arg6 harg6 h5 h6 1 (by decide) (2 * n + 1) (by omega)) rfl concatenates_S128x128_S128x128_S128x256_d1)
    rfl concatenates_S128x256_S128x256_S256x256_d0) ?_
  intro a b ha hb
  unfold Problem.wt
  by_cases h1 : a < 128 <;> by_cases h2 : b < 128 <;> simp only [h1, h2, if_true, if_false] <;>
    refine congrArg₂ (· * ·) (congrArg₂ P.w ?_ ?_) (congrArg₂ P.sc ?_ ?_) <;> omega

include h7 in
/-- A chunk of 256 columns of the gradient that comes in. -/
theorem gradChunk_mat (n : ℕ) (hn : n < 35) :
    IsMat (n0 := 256) (n1 := 256) (gradChunk arg7 harg7 x7 n hn) fun a b => P.dq a (256 * n + b) := by
  refine IsMat.cast (fun a b => ?_) shapeCasts_S256x256_S256x256
  refine (load_eq arg7 harg7 x7 rfl (chunk_inb n hn) a b (by omega) (by omega)).trans ((h7 _ _).trans ?_)
  show P.dq (0 + a.val) _ = _
  rw [Nat.zero_add]

/-- The zero constant of the products. -/
theorem zero_mat : IsMat (n0 := 256) (n1 := 256) (constant (F := Ideal) S256x256 .f32 0x00000000#32) fun _ _ => 0 := fun _ _ => Ideal.ofBits_zero .f32

include hi h5 h6 h7 in
/-- After `n` chunks the accumulator holds the sums over the first `256 * n` output columns. -/
theorem accs_mat (n : ℕ) (hn : n ≤ 35) :
    IsMat (n0 := 256) (n1 := 256) (accs i arg5 harg5 arg6 harg6 arg7 harg7 x5 x6 x7 n hn)
      fun a b => ∑ j ∈ Finset.range (256 * n), P.dq a j * P.wt (256 * t + b) j := by
  induction n with
  | zero => exact fun a b => (Ideal.ofBits_zero .f32).trans (by simp)
  | succ n ih =>
    refine IsMat.congr (IsMat.add (φ := .f32) (ih (Nat.le_of_succ_le hn))
      (IsMat.matmulT (φ := .bf16) (ψ := .bf16) (gradChunk_mat P arg7 harg7 h7 n hn) (chunk_mat P i t hi arg5 harg5 arg6 harg6 h5 h6 n hn) zero_mat)) ?_
    intro a b _ _
    rw [Nat.mul_succ, Finset.sum_range_add, zero_add]

include hi h5 h6 h7 in
/-- After all the chunks the accumulator holds the point's columns of the gradient of the scaled activations. -/
theorem acc_mat : IsMat (n0 := 256) (n1 := 256) (accs i arg5 harg5 arg6 harg6 arg7 harg7 x5 x6 x7 35 (Nat.le_refl _))
    fun a b => P.dxhat a (256 * t + b) := accs_mat P i t hi arg5 harg5 arg6 harg6 arg7 harg7 h5 h6 h7 35 (Nat.le_refl _)

include h7 in
/-- After `n` chunks the block of the weight's gradient is done in its first `256 * n` columns. -/
theorem dwPieces_read {xt : FVec Ideal S256x256 .bf16} (hx : IsMat (n0 := 256) (n1 := 256) xt fun a b => P.xhat b (256 * t + a))
    (v : View sig .tc .vmem S256x8960 .f32) (f : v.ty.Contents (Elt Ideal)) (n : ℕ) (hn : n ≤ 35) (a : Fin 256) (b : Fin 8960) (hb : b.val < 256 * n) :
    v.read (Elt Ideal) (v.writes (Elt Ideal) f (dwPieces arg7 harg7 x7 xt n hn)) (ix2 a b) = P.dW (256 * t + a.val) b.val := by
  induction n with
  | zero => omega
  | succ n ih =>
    by_cases h : b.val < 256 * n
    · exact (store_miss_col v f rfl (chunk_inb n hn) _ _ a b (Or.inl h)).trans (ih (Nat.le_of_succ_le hn) h)
    · refine (store_hit v f rfl (chunk_inb n hn) _ _ a b a ⟨b.val - 256 * n, by omega⟩ (by omega) (by show b.val = 256 * n + (b.val - 256 * n); omega)).trans ?_
      refine ((IsMat.matmul (φ := .bf16) (ψ := .bf16) hx (gradChunk_mat P arg7 harg7 h7 n hn) zero_mat) a ⟨b.val - 256 * n, by omega⟩).trans ?_
      have e : 256 * n + (b.val - 256 * n) = b.val := by omega
      show 0 + ∑ k ∈ Finset.range 256, P.xhat k (256 * t + a.val) * P.dq k (256 * n + (b.val - 256 * n)) = _
      rw [e, zero_add]
      rfl

end Chunks

section Sums
variable {n acc : FVec Ideal S256x256 .f32} {gain : Vec Ideal S1x256 .f32}
  (hn : IsMat (n0 := 256) (n1 := 256) n fun a b => P.n a (256 * t + b))
  (hacc : IsMat (n0 := 256) (n1 := 256) acc fun a b => P.dxhat a (256 * t + b))
  (hg : IsMat (n0 := 1) (n1 := 256) gain fun _ b => P.gain (256 * t + b))
include hn hacc

/-- The point's columns of the gradient of the gains: sums over the tokens. -/
theorem gainGrad_mat : IsMat (n0 := 1) (n1 := 256) (gainGrad n acc) fun _ b => P.dgain (256 * t + b) :=
  IsMat.sumRows (IsMat.mul (φ := .f32) hacc hn) _ _ _ _

include hg in
/-- The row sums, lane by lane, over two more blocks of 128 columns. -/
theorem rowSums_mat {old : Vec Ideal S256x128 .f32}
    (hold : IsMat (n0 := 256) (n1 := 128) old fun a l => ∑ k ∈ Finset.range (2 * t), P.gn a (128 * k + l)) :
    IsMat (n0 := 256) (n1 := 128) (rowSums n gain acc old) fun a l => ∑ k ∈ Finset.range (2 * (t + 1)), P.gn a (128 * k + l) := by
  have hgn := IsMat.mul (φ := .f32) (IsMat.mul (φ := .f32) hacc (IsMat.broadcastRow (IsMat.cast hg shapeCasts_S1x256_S1x256) (by decide) broadcasts_S1x256_S256x256)) hn
  refine IsMat.congr (IsMat.cast (IsMat.add (φ := .f32) hold (IsMat.add (φ := .f32)
    (IsMat.add (φ := .f32) (isMat_broadcast (n0 := 256) (n1 := 128) (Scalar.ofBits (F := Ideal) .f32 0x00000000#32)) (IsMat.slice hgn slices_S256x256_o0_0_S256x128))
    (IsMat.slice hgn slices_S256x256_o0_128_S256x128))) shapeCasts_S256x128_S256x128) ?_
  intro a l _ _
  have h0 : (Scalar.ofBits (F := Ideal) .f32 0x00000000#32 : EReal) = 0 := Ideal.ofBits_zero .f32
  rw [h0, Nat.mul_succ, Finset.sum_range_succ, Finset.sum_range_succ]
  have e1 : 128 * (2 * t) + l = 256 * t + (0 + l) := by omega
  have e2 : 128 * (2 * t + 1) + l = 256 * t + (128 + l) := by omega
  rw [e1, e2]
  simp only [Problem.gn, zero_add, add_assoc]

end Sums

end Cert.KernelIdeal.Body
-- ==== Proof.KernelIdeal.Ends.lean ====
module

public import proofs.«01_k».proof.Proof.KernelIdeal.Values

@[expose] public section

noncomputable section

namespace Cert.KernelIdeal.Body
open Cert.KernelIdeal Cert.KernelIdeal.Gen Cert.Mat
open Idealize.ShloMosaic Idealize.ShloMosaic.TcCoe

/-! The first point's column scratches and the last point's rows of dx, at their entries. -/

section First
variable {p : ℕ → EReal}

/-- A row of 128 per-token numbers, turned into 128 equal columns. -/
theorem spreadRow_mat {row : Vec Ideal S1x128 .f32} {f : ℕ → ℕ → EReal} (h : IsMat (n0 := 1) (n1 := 128) row f) :
    IsMat (n0 := 128) (n1 := 128) (k0_pay3 row) fun a _ => f 0 a :=
  IsMat.cast (IsMat.transpose (IsMat.broadcastRow (IsMat.cast h shapeCasts_S1x128_S1x128) (by decide) broadcasts_S1x128_S128x128)
    transposes_S128x128_p1_0_S128x128) shapeCasts_S128x128_S128x128

variable (arg : Memref sig .tc .vmem S2x128 .f32) (harg : arg.IsWhole) {x : Vec Ideal S2x128 .f32}
  (h : IsMat (n0 := 2) (n1 := 128) x fun a b => p (128 * a + b))
include h

/-- Row `r` of a 2 × 128 operand. -/
theorem row_mat (r : ℕ) (hr : r < 2) (inb : ∀ a : Fin 2, (![r, 0] : Fin 2 → ℕ) a + S1x128.size a ≤ S2x128.size a) :
    IsMat (n0 := 1) (n1 := 128) (View.readAt (Elt Ideal) arg.view (Rect.unit (s := S2x128) ![r, 0] S1x128.size inb).toLoadRect (harg.unread x))
      fun _ b => p (128 * r + b) := fun a b => by
  refine (load_eq arg harg x rfl inb a b (by omega) (by omega)).trans ((h _ _).trans ?_)
  have ha := a.isLt
  show p (128 * (r + a.val) + (0 + b.val)) = p (128 * r + b.val)
  exact congrArg p (by omega)

/-- After the two stores, every lane of a token holds the token's number. -/
theorem spread_read (v : View sig .tc .vmem S256x128 .f32) (f : v.ty.Contents (Elt Ideal)) :
    IsMat (n0 := 256) (n1 := 128) (v.read (Elt Ideal) (v.writes (Elt Ideal) f (spread arg harg x))) fun a _ => p a := fun a b => by
  have hb := b.isLt
  have ha := a.isLt
  by_cases hlt : a.val < 128
  · refine (store_miss_row v f rfl inb_S256x128_S128x128_128_0 _ _ a b (Or.inl hlt)).trans ?_
    refine (store_hit v f rfl inb_S256x128_S128x128_0_0 _ _ a b ⟨a.val, hlt⟩ b (by simp) (by simp)).trans ?_
    refine (spreadRow_mat (row_mat arg harg h 0 (by decide) inb_S2x128_S1x128_0_0) ⟨a.val, hlt⟩ b).trans ?_
    exact congrArg p (by show 128 * 0 + a.val = a.val; omega)
  · refine (store_hit v f rfl inb_S256x128_S128x128_128_0 _ _ a b ⟨a.val - 128, by omega⟩ b (by show a.val = 128 + (a.val - 128); omega) (by simp)).trans ?_
    refine (spreadRow_mat (row_mat arg harg h 1 (by decide) inb_S2x128_S1x128_1_0) ⟨a.val - 128, by omega⟩ b).trans ?_
    exact congrArg p (by show 128 * 1 + (a.val - 128) = a.val; omega)

omit h in
/-- A scratch loaded whole after its stores is what the stores left in it. -/
theorem colCov_mat (arg' : Memref sig .tc .vmem S256x128 .f32) {L : List (View.Piece (Elt Ideal) S256x128 .f32)} {f : ℕ → ℕ → EReal}
    (hL : ∀ g : arg'.view.ty.Contents (Elt Ideal), IsMat (n0 := 256) (n1 := 128) (arg'.view.read (Elt Ideal) (arg'.view.writes (Elt Ideal) g L)) f) :
    IsMat (n0 := 256) (n1 := 128) (colCov arg' L) f := fun a b => by
  refine Eq.trans ?_ (hL arg'.view.junk a b)
  show arg'.view.read (Elt Ideal) _ _ = arg'.view.read (Elt Ideal) _ _
  refine congrArg _ (funext fun c => Fin.ext ?_)
  match c with
  | ⟨0, _⟩ => show 0 + 1 * a.val = a.val; omega
  | ⟨1, _⟩ => show 0 + 1 * b.val = b.val; omega

omit h in
/-- A piece that covers the row sums leaves its payload. -/
theorem sums_read (v : View sig .tc .vmem S256x128 .f32) (f : v.ty.Contents (Elt Ideal)) {w : FVec Ideal S256x128 .f32} {g : ℕ → ℕ → EReal}
    (hw : IsMat (n0 := 256) (n1 := 128) w g) (L : List (View.Piece (Elt Ideal) S256x128 .f32)) :
    IsMat (n0 := 256) (n1 := 128) (v.read (Elt Ideal) (v.writes (Elt Ideal) f (sumsPiece w :: L))) g := fun a b =>
  (store_hit v f rfl inb_S256x128_S256x128_0_0 w L a b a b (by simp) (by simp)).trans (hw a b)

omit h in
/-- The row sums begin at zero. -/
theorem zeroSums_mat : IsMat (n0 := 256) (n1 := 128) (k0_pay7 (F := Ideal)) fun _ _ => 0 :=
  IsMat.congr (IsMat.cast (isMat_broadcast (n0 := 256) (n1 := 128) (Scalar.ofBits (F := Ideal) .f32 0x00000000#32)) shapeCasts_S256x128_S256x128)
    fun _ _ _ _ => Ideal.ofBits_zero .f32

end First

section Last

/-- The first column of a trip's 128 columns. -/
theorem k0_off73_eq (k : Fin k0_t1_loop.trips) : k0_off73 k = ![0, 128 * k.val] := by
  have hk : k.val < 40 := k.isLt
  have h : k0_off73 k 1 = 128 * k.val := by
    show BitVec.toNat (Scalar.indexCast (Scalar.muli (Scalar.addi 0#32 (Scalar.muli (Scf.iv 0#32 1#32 k) 1#32)) 128#32)) = _
    simp only [Scalar.indexCast, Scalar.muli, Scalar.addi, Scf.iv, IntOp.muli, IntOp.addi, BitVec.toNat_mul, BitVec.toNat_add, BitVec.toNat_ofNat]
    omega
  funext a
  match a with
  | ⟨0, _⟩ => rfl
  | ⟨1, _⟩ => exact h

/-- The gains are read at the same columns. -/
theorem k0_off74_eq (k : Fin k0_t1_loop.trips) : k0_off74 k = ![0, 128 * k.val] := k0_off73_eq k

/-- The reciprocal of the number of columns, over the reals. -/
theorem inv_d_eq : (Named.named (F := Ideal) (φ := .f32) κ "inv_d" 0x394CCCCD#32 : EReal) = ((1 / 5120 : ℝ) : EReal) :=
  IdealRules.named_const.ideal_named_scalar _ _ _ _ rfl

variable (P : Problem) (i : grid0.Coords)
  (arg1 : Memref sig .tc .vmem S256x5120 .fp8e4m3) (harg1 : arg1.IsWhole) (arg4 : Memref sig .tc .vmem S1x5120 .f32) (harg4 : arg4.IsWhole)
  (arg11 : Memref sig .tc .vmem S256x128 .f32) (harg11 : arg11.IsWhole) (arg12 : Memref sig .tc .vmem S256x128 .f32) (harg12 : arg12.IsWhole)
  (arg13 : Memref sig .tc .vmem S256x5120 .f32) (harg13 : arg13.IsWhole) (arg14 : Memref sig .tc .vmem S256x128 .f32) (harg14 : arg14.IsWhole)
  (h : k0_cond2 i = 1#1)
  {x1 : Vec Ideal S256x5120 .fp8e4m3} {x4 : Vec Ideal S1x5120 .f32} {x11 : Vec Ideal S256x128 .f32} {x12 : Vec Ideal S256x128 .f32} {x13 : Vec Ideal S256x5120 .f32} {x14 : Vec Ideal S256x128 .f32}
  (hx1 : IsMat (n0 := 256) (n1 := 5120) x1 P.x) (hx4 : IsMat (n0 := 1) (n1 := 5120) x4 fun _ b => P.gain b)
  (hx11 : IsMat (n0 := 256) (n1 := 128) x11 fun a _ => P.xs a) (hx12 : IsMat (n0 := 256) (n1 := 128) x12 fun a _ => P.rs a)
  (hx13 : IsMat (n0 := 256) (n1 := 5120) x13 P.dxhat)
  (hx14 : IsMat (n0 := 256) (n1 := 128) x14 fun a l => ∑ q ∈ Finset.range 40, P.gn a (128 * q + l))
include hx1 hx4 hx11 hx12 hx13 hx14

/-- What a trip stores is dx at its columns. -/
theorem dxPiece_mat (k : Fin k0_t1_loop.trips) :
    IsMat (n0 := 256) (n1 := 128) (dxPiece i arg1 harg1 arg4 harg4 arg11 harg11 arg12 harg12 arg13 harg13 arg14 harg14 h x1 x4 x11 x12 x13 x14 k).2
      fun a b => P.dx a (128 * k.val + b) := by
  have hk : k.val < 40 := k.isLt
  have c11 := colOf_mat arg11 harg11 hx11
  have c12 := colOf_mat arg12 harg12 hx12
  have c14 := colOf_mat arg14 harg14 hx14
  have l1 : IsMat (n0 := 256) (n1 := 128) (View.readAt (Elt Ideal) arg1.view (Rect.unit (s := S256x5120) (k0_off73 k) S256x128.size (k0_off73_inb i k h)).toLoadRect (harg1.unread x1))
      fun a b => P.x a (128 * k.val + b) := fun a b => by
    refine (load_eq arg1 harg1 x1 (k0_off73_eq k) (k0_off73_inb i k h) a b (by omega) (by omega)).trans ((hx1 _ _).trans ?_)
    exact congrArg (fun r => P.x r (128 * k.val + b.val)) (Nat.zero_add a.val)
  have l13 : IsMat (n0 := 256) (n1 := 128) (View.readAt (Elt Ideal) arg13.view (Rect.unit (s := S256x5120) (k0_off73 k) S256x128.size (k0_off73_inb i k h)).toLoadRect (harg13.unread x13))
      fun a b => P.dxhat a (128 * k.val + b) := fun a b => by
    refine (load_eq arg13 harg13 x13 (k0_off73_eq k) (k0_off73_inb i k h) a b (by omega) (by omega)).trans ((hx13 _ _).trans ?_)
    exact congrArg (fun r => P.dxhat r (128 * k.val + b.val)) (Nat.zero_add a.val)
  have l4 : IsMat (n0 := 1) (n1 := 128) (View.readAt (Elt Ideal) arg4.view (Rect.unit (s := S1x5120) (k0_off74 k) S1x128.size (k0_off74_inb i k h)).toLoadRect (harg4.unread x4))
      fun _ b => P.gain (128 * k.val + b) := fun a b =>
    (load_eq arg4 harg4 x4 (k0_off74_eq k) (k0_off74_inb i k h) a b (by omega) (by omega)).trans (hx4 _ _)
  have hmean : IsMat (n0 := 256) (n1 := 1) (mulf (shapeCast S256x1 (multiReduction .add [1] S256 (colOf arg14 harg14 x14) 0x00000000#32 reduces_S256x128_S256 (.inl rfl) rfl) shapeCasts_S256_S256x1)
      (broadcast S256x1 (Named.named (F := Ideal) (φ := .f32) κ "inv_d" 0x394CCCCD#32))) fun a _ => P.mean a := by
    refine IsMat.congr (IsMat.mul (φ := .f32) (IsMat.sumCols c14 _ _ _ _) (isMat_broadcast _)) ?_
    intro a _ _ _
    rw [inv_d_eq]
    show (∑ l ∈ Finset.range 128, ∑ q ∈ Finset.range 40, P.gn a (128 * q + l)) * _ = _
    rw [Problem.sum_lanes (P.gn a) 40]
    rfl
  exact IsMat.truncf (φ := .f32) (IsMat.mul (φ := .f32) c12 (IsMat.sub (φ := .f32)
    (IsMat.mul (φ := .f32) l13 (IsMat.broadcastRow (IsMat.cast l4 shapeCasts_S1x128_S1x128) (by decide) broadcasts_S1x128_S256x128))
    (IsMat.mul (φ := .f32) (IsMat.mul (φ := .f32) (IsMat.mul (φ := .f32) (IsMat.extf (φ := .fp8e4m3) (IsMat.cast l1 shapeCasts_S256x128_S256x128) bitsLt_fp8e4m3_f32) c11) c12)
      (IsMat.broadcastCol (IsMat.cast hmean shapeCasts_S256x1_S256x1) (by decide) broadcasts_S256x1_S256x128)))) bitsLt_bf16_f32

/-- After `n` trips, dx is done in its first `128 * n` columns. -/
theorem dxPieces_read (v : View sig .tc .vmem S256x5120 .bf16) (f : v.ty.Contents (Elt Ideal)) (n : ℕ) (hn : n ≤ k0_t1_loop.trips)
    (a : Fin 256) (b : Fin 5120) (hb : b.val < 128 * n) :
    v.read (Elt Ideal) (v.writes (Elt Ideal) f (dxPieces i arg1 harg1 arg4 harg4 arg11 harg11 arg12 harg12 arg13 harg13 arg14 harg14 h x1 x4 x11 x12 x13 x14 n hn)) (ix2 a b)
      = P.dx a.val b.val := by
  induction n with
  | zero => omega
  | succ n ih =>
    have hk := k0_off73_eq ⟨n, hn⟩
    by_cases hlt : b.val < 128 * n
    · exact (store_miss_col v f hk (k0_off73_inb i ⟨n, hn⟩ h) _ _ a b (Or.inl hlt)).trans (ih (Nat.le_of_succ_le hn) hlt)
    · refine (store_hit v f hk (k0_off73_inb i ⟨n, hn⟩ h) _ _ a b a ⟨b.val - 128 * n, by omega⟩ (Nat.zero_add _).symm
        (by show b.val = 128 * n + (b.val - 128 * n); omega)).trans ?_
      refine (dxPiece_mat P i arg1 harg1 arg4 harg4 arg11 harg11 arg12 harg12 arg13 harg13 arg14 harg14 h hx1 hx4 hx11 hx12 hx13 hx14 ⟨n, hn⟩ a ⟨b.val - 128 * n, by omega⟩).trans ?_
      exact congrArg (P.dx a.val) (by show 128 * n + (b.val - 128 * n) = b.val; omega)

end Last

end Cert.KernelIdeal.Body
-- ==== Proof.KernelIdeal.Follow.lean ====
module

public import proofs.«01_k».proof.Proof.KernelIdeal.Ends
public import proofs.«01_k».proof.Proof.KernelIdeal.Sound

@[expose] public section

noncomputable section

namespace Cert.KernelIdeal.Body
open Cert.KernelIdeal Cert.KernelIdeal.Gen Cert.Mat
open Idealize.ShloMosaic Idealize.ShloMosaic.TcCoe

/-! The track of the values: what the scratch buffers and the result blocks hold point by point, for operands that are a `Problem`. -/

/-- The operand blocks of every point are the entries of `P`. -/
structure Fits (P : Problem) (m : (ℓ : Loc nD τ sig) → Buf (Elt Ideal) ℓ) (c : Dev nD) : Prop where
  x : ∀ t : Fin cfg0.N, IsMat (n0 := 256) (n1 := 5120) (iblk m c 0 t : Vec Ideal S256x5120 .fp8e4m3) P.x
  xs : ∀ t : Fin cfg0.N, IsMat (n0 := 2) (n1 := 128) (iblk m c 1 t : Vec Ideal S2x128 .f32) fun a b => P.xs (128 * a + b)
  rs : ∀ t : Fin cfg0.N, IsMat (n0 := 2) (n1 := 128) (iblk m c 2 t : Vec Ideal S2x128 .f32) fun a b => P.rs (128 * a + b)
  gain : ∀ t : Fin cfg0.N, IsMat (n0 := 1) (n1 := 5120) (iblk m c 3 t : Vec Ideal S1x5120 .f32) fun _ b => P.gain b
  w : ∀ t : Fin cfg0.N, IsMat (n0 := 256) (n1 := 8960) (iblk m c 4 t : Vec Ideal S256x8960 .fp8e4m3) fun a b => P.w (256 * t.val + a) b
  sc : ∀ t : Fin cfg0.N, IsMat (n0 := 40) (n1 := 70) (iblk m c 5 t : Vec Ideal S40x70 .f32) P.sc
  dq : ∀ t : Fin cfg0.N, IsMat (n0 := 256) (n1 := 8960) (iblk m c 6 t : Vec Ideal S256x8960 .bf16) P.dq

/-- What is known before point `n`, after the first: the two columns spread over the lanes, the gradient of the normalized
activations in the columns done so far, and its row sums with the gain and the activations, lane by lane. -/
structure State (P : Problem) (n : ℕ) (x11 x12 : Vec Ideal S256x128 .f32) (x13 : Vec Ideal S256x5120 .f32) (x14 : Vec Ideal S256x128 .f32) : Prop where
  xs : IsMat (n0 := 256) (n1 := 128) x11 fun a _ => P.xs a
  rs : IsMat (n0 := 256) (n1 := 128) x12 fun a _ => P.rs a
  grad : ∀ (a : Fin 256) (b : Fin 5120), b.val < 256 * n → x13 (ix2 a b) = P.dxhat a.val b.val
  sums : IsMat (n0 := 256) (n1 := 128) x14 fun a l => ∑ q ∈ Finset.range (2 * n), P.gn a (128 * q + l)

/-- The track: the state of the scratch buffers, a block of the weight's gradient, the part done of the gain's gradient, and at
the last point the gradient of the activations. -/
def follow (P : Problem) : Track Ideal where
  S n x11 x12 x13 x14 := n = 0 ∨ State P n x11 x12 x13 x14
  R7 t X := t.val = 19 → IsMat (n0 := 256) (n1 := 5120) X P.dx
  R8 t X := IsMat (n0 := 256) (n1 := 8960) X fun a b => P.dW (256 * t.val + a) b
  R9 t X := ∀ b : Fin 5120, b.val < 256 * (t.val + 1) → X (ix2 (0 : Fin 1) b) = P.dgain b.val

variable {P : Problem} {m : (ℓ : Loc nD τ sig) → Buf (Elt Ideal) ℓ} {c : Dev nD}

/-- The one coordinate of a point is its number. -/
theorem coord_eq (t : Fin cfg0.N) : (grid0.coords t 0).val = t.val := by
  have ht : t.val < 20 := Nat.lt_of_lt_of_eq t.isLt N_0
  have e0 : (grid0.coords t 0).val = t.val / 1 % 20 := Pipeline.Grid.coords_val t 0 (by decide) rfl
  omega

/-- A point's columns of the scratch of the gradient, with what was there before. -/
theorem gradPiece_read (i : grid0.Coords) (v : View sig .tc .vmem S256x5120 .f32) (f : v.ty.Contents (Elt Ideal)) {w : FVec Ideal S256x256 .f32}
    (hw : IsMat (n0 := 256) (n1 := 256) w fun a b => P.dxhat a (256 * (i 0).val + b))
    (hold : ∀ (a : Fin 256) (b : Fin 5120), b.val < 256 * (i 0).val → v.read (Elt Ideal) f (ix2 a b) = P.dxhat a.val b.val)
    (a : Fin 256) (b : Fin 5120) (hb : b.val < 256 * ((i 0).val + 1)) :
    v.read (Elt Ideal) (v.writes (Elt Ideal) f [gradPiece i w]) (ix2 a b) = P.dxhat a.val b.val := by
  by_cases h : b.val < 256 * (i 0).val
  · exact (store_miss_col v f (k0_off1_eq i) (k0_off1_inb i) w [] a b (Or.inl h)).trans (hold a b h)
  · refine (store_hit v f (k0_off1_eq i) (k0_off1_inb i) w [] a b a ⟨b.val - 256 * (i 0).val, by omega⟩ (Nat.zero_add _).symm
      (by show b.val = 256 * (i 0).val + (b.val - 256 * (i 0).val); omega)).trans ((hw _ _).trans ?_)
    exact congrArg (P.dxhat a.val) (by show 256 * (i 0).val + (b.val - 256 * (i 0).val) = b.val; omega)

/-- A point's columns of the gain's gradient, with what was there before. -/
theorem gainPiece_read (i : grid0.Coords) (v : View sig .tc .vmem S1x5120 .f32) (f : v.ty.Contents (Elt Ideal)) {w : FVec Ideal S1x256 .f32}
    (hw : IsMat (n0 := 1) (n1 := 256) w fun _ b => P.dgain (256 * (i 0).val + b))
    (hold : ∀ b : Fin 5120, b.val < 256 * (i 0).val → v.read (Elt Ideal) f (ix2 (0 : Fin 1) b) = P.dgain b.val)
    (b : Fin 5120) (hb : b.val < 256 * ((i 0).val + 1)) :
    v.read (Elt Ideal) (v.writes (Elt Ideal) f [gainPiece i w]) (ix2 (0 : Fin 1) b) = P.dgain b.val := by
  by_cases h : b.val < 256 * (i 0).val
  · exact (store_miss_col v f (k0_off2_eq i) (k0_off2_inb i) w [] 0 b (Or.inl h)).trans (hold b h)
  · refine (store_hit v f (k0_off2_eq i) (k0_off2_inb i) w [] 0 b 0 ⟨b.val - 256 * (i 0).val, by omega⟩ (Nat.zero_add _).symm
      (by show b.val = 256 * (i 0).val + (b.val - 256 * (i 0).val); omega)).trans ((hw _ _).trans ?_)
    exact congrArg P.dgain (by show 256 * (i 0).val + (b.val - 256 * (i 0).val) = b.val; omega)

/-- The block of the weight's gradient, whatever the block held. -/
theorem dwPieces_mat (t : ℕ) (arg7 : Memref sig .tc .vmem S256x8960 .bf16) (harg7 : arg7.IsWhole) {x7 : Vec Ideal S256x8960 .bf16}
    (h7 : IsMat (n0 := 256) (n1 := 8960) x7 P.dq) {xt : FVec Ideal S256x256 .bf16} (hx : IsMat (n0 := 256) (n1 := 256) xt fun a b => P.xhat b (256 * t + a))
    (v : View sig .tc .vmem S256x8960 .f32) (f : v.ty.Contents (Elt Ideal)) :
    IsMat (n0 := 256) (n1 := 8960) (v.read (Elt Ideal) (v.writes (Elt Ideal) f (dwPieces arg7 harg7 x7 xt 35 (Nat.le_refl _)))) fun a b => P.dW (256 * t + a) b :=
  fun a b => dwPieces_read P t arg7 harg7 h7 hx v f 35 (Nat.le_refl _) a b b.isLt

/-- The first point's run brings the scratch buffers and the written blocks to what the problem says. -/
theorem follow_first (hP : Fits P m c) (t : Fin cfg0.N) (h : first (grid0.coords t) = 1#1) (x8 : Vec Ideal S256x5120 .bf16) (x9 : Vec Ideal S256x8960 .f32) (x10 : Vec Ideal S1x5120 .f32) (x11 : Vec Ideal S256x128 .f32) (x12 : Vec Ideal S256x128 .f32) (x13 : Vec Ideal S256x5120 .f32) (x14 : Vec Ideal S256x128 .f32) :
    let r := runA c (grid0.coords t) (m1 t) (h1 t) (m2 t) (h2 t) (m3 t) (h3 t) (m4 t) (h4 t) (m5 t) (h5 t) (m6 t) (h6 t) (m7 t) (h7 t) (m8 t) (h8 t) (m9 t) (h9 t) (m10 t) (h10 t) (m11 t) (h11 t) (m12 t) (h12 t) (m13 t) (h13 t) (m14 t) (h14 t) h (iblk m c 0 t) (iblk m c 1 t) (iblk m c 2 t) (iblk m c 3 t) (iblk m c 4 t) (iblk m c 5 t) (iblk m c 6 t) x8 x9 x10 x11 x12 x13 x14
    (follow P).S (t.val + 1) ((m11 t).view.read (Elt Ideal) ((m11 t).view.writes (Elt Ideal) ((h11 t).unread x11) r.2.2.1)) ((m12 t).view.read (Elt Ideal) ((m12 t).view.writes (Elt Ideal) ((h12 t).unread x12) r.2.2.2.1)) ((m13 t).view.read (Elt Ideal) ((m13 t).view.writes (Elt Ideal) ((h13 t).unread x13) r.2.2.2.2.1)) ((m14 t).view.read (Elt Ideal) ((m14 t).view.writes (Elt Ideal) ((h14 t).unread x14) r.2.2.2.2.2.1))
      ∧ (follow P).R8 t ((m9 t).view.read (Elt Ideal) ((m9 t).view.writes (Elt Ideal) ((h9 t).unread x9) r.1)) ∧ (follow P).R9 t ((m10 t).view.read (Elt Ideal) ((m10 t).view.writes (Elt Ideal) ((h10 t).unread x10) r.2.1)) := by
  intro r
  have H := runA_pieces (F := Ideal) c (grid0.coords t) (m1 t) (h1 t) (m2 t) (h2 t) (m3 t) (h3 t) (m4 t) (h4 t) (m5 t) (h5 t) (m6 t) (h6 t) (m7 t) (h7 t) (m8 t) (h8 t) (m9 t) (h9 t) (m10 t) (h10 t) (m11 t) (h11 t) (m12 t) (h12 t) (m13 t) (h13 t) (m14 t) (h14 t) (iblk m c 0 t) (iblk m c 1 t) (iblk m c 2 t) (iblk m c 3 t) (iblk m c 4 t) (iblk m c 5 t) (iblk m c 6 t) x8 x9 x10 x11 x12 x13 x14 h
  have hi := coord_eq t
  have ht : t.val = 0 := by
    have h20 : t.val < 20 := Nat.lt_of_lt_of_eq t.isLt N_0
    have := (first_iff t).mp h
    omega
  have hxs := colCov_mat (m11 t) fun g => spread_read (p := P.xs) (m2 t) (h2 t) (hP.xs t) (m11 t).view g
  have hrs := colCov_mat (m12 t) fun g => spread_read (p := P.rs) (m3 t) (h3 t) (hP.rs t) (m12 t).view g
  have hv := codesOf_mat P (grid0.coords t) t.val hi (m1 t) (h1 t) (hP.x t)
  have hg := gainOf_mat P (grid0.coords t) t.val hi (m4 t) (h4 t) (hP.gain t)
  have hn := n_mat P t.val hv hxs hrs
  have hacc := acc_mat P (grid0.coords t) t.val hi (m5 t) (h5 t) (m6 t) (h6 t) (m7 t) (h7 t) (hP.w t) (hP.sc t) (hP.dq t)
  have hold : IsMat (n0 := 256) (n1 := 128) (colCov (m14 t) [sumsPiece (k0_pay7 (F := Ideal))]) fun a l => ∑ q ∈ Finset.range (2 * t.val), P.gn a (128 * q + l) :=
    IsMat.congr (colCov_mat (m14 t) fun g => sums_read (m14 t).view g zeroSums_mat []) fun a b _ _ => by rw [ht]; rfl
  refine ⟨Or.inr ⟨?_, ?_, ?_, ?_⟩, ?_, ?_⟩
  · rw [show r.2.2.1 = _ from H.2.2.1]; exact spread_read (m2 t) (h2 t) (hP.xs t) _ _
  · rw [show r.2.2.2.1 = _ from H.2.2.2.1]; exact spread_read (m3 t) (h3 t) (hP.rs t) _ _
  · rw [show r.2.2.2.2.1 = _ from H.2.2.2.2.1]
    intro a b hb
    refine gradPiece_read (grid0.coords t) _ _ (by rw [hi]; exact IsMat.cast hacc shapeCasts_S256x256_S256x256) ?_ a b (by rw [hi]; exact hb)
    intro a b hb
    rw [hi, ht] at hb
    omega
  · rw [show r.2.2.2.2.2.1 = _ from H.2.2.2.2.2]; exact sums_read _ _ (rowSums_mat P t.val hn hacc hg hold) _
  · rw [show r.1 = _ from H.1]; exact dwPieces_mat t.val (m7 t) (h7 t) (hP.dq t) (xt_mat P t.val hv hxs hrs hg) _ _
  · rw [show r.2.1 = _ from H.2.1]
    intro b hb
    refine gainPiece_read (grid0.coords t) _ _ (by rw [hi]; exact gainGrad_mat P t.val hn hacc) ?_ b (by rw [hi]; exact hb)
    intro b hb
    rw [hi, ht] at hb
    omega

/-- A later point's run carries the scratch buffers on and writes its blocks as the problem says. -/
theorem follow_later (hP : Fits P m c) (t : Fin cfg0.N) (h : ¬first (grid0.coords t) = 1#1) (x8 : Vec Ideal S256x5120 .bf16) (x9 : Vec Ideal S256x8960 .f32) (x10 : Vec Ideal S1x5120 .f32) (x11 : Vec Ideal S256x128 .f32) (x12 : Vec Ideal S256x128 .f32) (x13 : Vec Ideal S256x5120 .f32) (x14 : Vec Ideal S256x128 .f32)
    (hS : (follow P).S t.val x11 x12 x13 x14) (h9' : (follow P).R9 ⟨t.val - 1, Nat.lt_of_le_of_lt (Nat.sub_le _ _) t.isLt⟩ x10) :
    let r := runB c (grid0.coords t) (m1 t) (h1 t) (m2 t) (h2 t) (m3 t) (h3 t) (m4 t) (h4 t) (m5 t) (h5 t) (m6 t) (h6 t) (m7 t) (h7 t) (m8 t) (h8 t) (m9 t) (h9 t) (m10 t) (h10 t) (m11 t) (h11 t) (m12 t) (h12 t) (m13 t) (h13 t) (m14 t) (h14 t) h (iblk m c 0 t) (iblk m c 1 t) (iblk m c 2 t) (iblk m c 3 t) (iblk m c 4 t) (iblk m c 5 t) (iblk m c 6 t) x8 x9 x10 x11 x12 x13 x14
    (follow P).S (t.val + 1) x11 x12 ((m13 t).view.read (Elt Ideal) ((m13 t).view.writes (Elt Ideal) ((h13 t).unread x13) r.2.2.1)) ((m14 t).view.read (Elt Ideal) ((m14 t).view.writes (Elt Ideal) ((h14 t).unread x14) r.2.2.2.1))
      ∧ (follow P).R8 t ((m9 t).view.read (Elt Ideal) ((m9 t).view.writes (Elt Ideal) ((h9 t).unread x9) r.1)) ∧ (follow P).R9 t ((m10 t).view.read (Elt Ideal) ((m10 t).view.writes (Elt Ideal) ((h10 t).unread x10) r.2.1)) := by
  intro r
  obtain ⟨e1, e2, e3, e4⟩ := runB_pieces c (grid0.coords t) (m1 t) (h1 t) (m2 t) (h2 t) (m3 t) (h3 t) (m4 t) (h4 t) (m5 t) (h5 t) (m6 t) (h6 t) (m7 t) (h7 t) (m8 t) (h8 t) (m9 t) (h9 t) (m10 t) (h10 t) (m11 t) (h11 t) (m12 t) (h12 t) (m13 t) (h13 t) (m14 t) (h14 t) (iblk m c 0 t) (iblk m c 1 t) (iblk m c 2 t) (iblk m c 3 t) (iblk m c 4 t) (iblk m c 5 t) (iblk m c 6 t) x8 x9 x10 x11 x12 x13 x14 h
  have hi := coord_eq t
  have ht : t.val ≠ 0 := fun e => h ((first_iff t).mpr (by rw [e]))
  have hS := hS.resolve_left ht
  have hxs := colOf_mat (m11 t) (h11 t) hS.xs
  have hrs := colOf_mat (m12 t) (h12 t) hS.rs
  have hv := codesOf_mat P (grid0.coords t) t.val hi (m1 t) (h1 t) (hP.x t)
  have hg := gainOf_mat P (grid0.coords t) t.val hi (m4 t) (h4 t) (hP.gain t)
  have hn := n_mat P t.val hv hxs hrs
  have hacc := acc_mat P (grid0.coords t) t.val hi (m5 t) (h5 t) (m6 t) (h6 t) (m7 t) (h7 t) (hP.w t) (hP.sc t) (hP.dq t)
  have hold := colOf_mat (m14 t) (h14 t) hS.sums
  refine ⟨Or.inr ⟨hS.xs, hS.rs, ?_, ?_⟩, ?_, ?_⟩
  · rw [show r.2.2.1 = _ from e3]
    intro a b hb
    refine gradPiece_read (grid0.coords t) _ _ (by rw [hi]; exact IsMat.cast hacc shapeCasts_S256x256_S256x256) ?_ a b (by rw [hi]; exact hb)
    intro a b hb
    rw [hi] at hb
    exact (congrFun ((h13 t).read_unread x13) (ix2 a b)).trans (hS.grad a b hb)
  · rw [show r.2.2.2.1 = _ from e4]; exact sums_read _ _ (rowSums_mat P t.val hn hacc hg hold) _
  · rw [show r.1 = _ from e1]; exact dwPieces_mat t.val (m7 t) (h7 t) (hP.dq t) (xt_mat P t.val hv hxs hrs hg) _ _
  · rw [show r.2.1 = _ from e2]
    intro b hb
    refine gainPiece_read (grid0.coords t) _ _ (by rw [hi]; exact gainGrad_mat P t.val hn hacc) ?_ b (by rw [hi]; exact hb)
    intro b hb
    rw [hi] at hb
    exact (congrFun ((h10 t).read_unread x10) (ix2 0 b)).trans (h9' b (by show b.val < 256 * (t.val - 1 + 1); omega))

/-- Every run of the body keeps to the track. -/
theorem follow_good (hP : Fits P m c) : (follow P).Good m c where
  zero _ _ _ _ := Or.inl rfl
  first := follow_first hP
  later := follow_later hP
  idle t h x8 h19 := absurd ((last_iff t).mpr (by rw [h19])) h
  last t h x8 x11 x12 x13 x14 hS _ := by
    have hS := hS.resolve_left (Nat.succ_ne_zero _)
    have ht : t.val = 19 := by
      have h20 : t.val < 20 := Nat.lt_of_lt_of_eq t.isLt N_0
      have := (last_iff t).mp h
      omega
    rw [runEnd_pieces]
    intro a b
    refine dxPieces_read P (grid0.coords t) (m1 t) (h1 t) (m4 t) (h4 t) (m11 t) (h11 t) (m12 t) (h12 t) (m13 t) (h13 t) (m14 t) (h14 t) h
      (hP.x t) (hP.gain t) hS.xs hS.rs (fun a b => hS.grad a b (by rw [ht]; exact b.isLt)) ?_ _ _ _ _ a b b.isLt
    have := hS.sums
    rw [ht] at this
    exact this

end Cert.KernelIdeal.Body
-- ==== Proof.KernelIdeal.Blocks.lean ====
module

public import proofs.«01_k».proof.Proof.Operands
public import proofs.«01_k».proof.Proof.KernelIdeal.Follow
public import Idealize.ShloMosaic.Lib.Pipeline.ValueKit

@[expose] public section

noncomputable section

namespace Cert.KernelIdeal.Body
open Cert.KernelIdeal Cert.KernelIdeal.Gen Cert.Mat
open Idealize.ShloMosaic Idealize.ShloMosaic.Pipeline Idealize.ShloMosaic.TcCoe

/-! The operand blocks of the points, in terms of the arguments as launched. -/

variable (m : (ℓ : Loc nD τ sig) → Buf (Elt Ideal) ℓ) (c : Dev nD)

/-- The problem that the launched arguments pose. -/
def given : Problem :=
  problem (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The codes reach the region with their tokens in one axis. -/
theorem V_codes : V m c main_v0 = shapeCast S256x5120 (m ((c : Thread nD τ).loc main_arg0)) shapeCasts_S2x128x5120_S256x5120 := by
  dsimp only [V, hostOps0]
  after_results_simp
  rfl

/-- The gain reaches it as one row. -/
theorem V_gain : V m c main_v1 = shapeCast S1x5120 (m ((c : Thread nD τ).loc main_arg3)) shapeCasts_S5120_S1x5120 := by
  dsimp only [V, hostOps0]
  after_results_simp
  rfl

/-- The incoming gradient reaches it with its tokens in one axis. -/
theorem V_grad : V m c main_v2 = shapeCast S256x8960 (m ((c : Thread nD τ).loc main_arg6)) shapeCasts_S2x128x8960_S256x8960 := by
  dsimp only [V, hostOps0]
  after_results_simp
  rfl

/-- All windows but two stay on their array; the weight's rows and their gradient's advance by a block a point. -/
theorem idx : ∀ t : Fin cfg0.N, win0_0.index t = ![0, 0] ∧ win0_1.index t = ![0, 0] ∧ win0_2.index t = ![0, 0] ∧ win0_3.index t = ![0, 0]
    ∧ win0_4.index t = ![t.val, 0] ∧ win0_5.index t = ![0, 0] ∧ win0_6.index t = ![0, 0] ∧ win0_8.index t = ![t.val, 0] :=
  (by decide +kernel : ∀ t : Fin grid0.N, _)

/-- Where a point's block of weight codes lies among them. -/
theorem weight_emb (t : Fin cfg0.N) (a : Fin 256) (b : Fin 8960) (h : 256 * t.val + a.val < 5120) :
    ((win0_4.blk t).view.emb (ix2 a b) : S5120x8960.Idx) = ix2 ⟨256 * t.val + a.val, h⟩ b := by
  funext k
  apply Fin.ext
  match k with
  | ⟨0, _⟩ =>
    blk_simp [idx t]
    exact congrArg (· + a.val) (Nat.mul_comm _ _)
  | ⟨1, _⟩ =>
    blk_simp [idx t]

/-- The operand blocks are the entries of the given problem. -/
theorem given_fits : Fits (given m c) m c where
  x t := by
    have e : (iblk m c 0 t : Vec Ideal S256x5120 .fp8e4m3) = V m c main_v0 := by blk_ext! [iblk, idx t]
    rw [e, V_codes]
    exact flatten_mat _ _
  xs t a b := by
    have e : (iblk m c 1 t : Vec Ideal S2x128 .f32) = V m c main_arg1 := by blk_ext! [iblk, idx t]
    rw [e, V_main_arg1]
    refine (at2_fin _ a b).symm.trans ?_
    show at2 _ _ _ = at2 _ ((128 * a.val + b.val) / 128) ((128 * a.val + b.val) % 128)
    rw [show (128 * a.val + b.val) / 128 = a.val by omega, show (128 * a.val + b.val) % 128 = b.val by omega]
  rs t a b := by
    have e : (iblk m c 2 t : Vec Ideal S2x128 .f32) = V m c main_arg2 := by blk_ext! [iblk, idx t]
    rw [e, V_main_arg2]
    refine (at2_fin _ a b).symm.trans ?_
    show at2 _ _ _ = at2 _ ((128 * a.val + b.val) / 128) ((128 * a.val + b.val) % 128)
    rw [show (128 * a.val + b.val) / 128 = a.val by omega, show (128 * a.val + b.val) % 128 = b.val by omega]
  gain t a b := by
    have e : (iblk m c 3 t : Vec Ideal S1x5120 .f32) = V m c main_v1 := by blk_ext! [iblk, idx t]
    rw [e, V_gain]
    exact (row_apply _ _ a b).trans (at1_eq _ b).symm
  w t a b := by
    have ht : t.val < 20 := Nat.lt_of_lt_of_eq t.isLt N_0
    have e : (iblk m c 4 t : Vec Ideal S256x8960 .fp8e4m3) (ix2 a b) = V m c main_arg4 (ix2 ⟨256 * t.val + a.val, by omega⟩ b) := by
      blk_simp [iblk, idx t]
      exact congrArg (V m c main_arg4) (weight_emb t a b (by omega))
    rw [e, V_main_arg4]
    exact (at2_fin _ _ b).symm
  sc t := by
    have e : (iblk m c 5 t : Vec Ideal S40x70 .f32) = V m c main_arg5 := by blk_ext! [iblk, idx t]
    rw [e, V_main_arg5]
    exact isMat_at2 _
  dq t := by
    have e : (iblk m c 6 t : Vec Ideal S256x8960 .bf16) = V m c main_v2 := by blk_ext! [iblk, idx t]
    rw [e, V_grad]
    exact flatten_mat _ _

/-! ## What the run leaves in the three result arrays -/

/-- The last point. -/
def lastPt : Fin cfg0.N := ⟨19, (by rw [N_0]; decide : 19 < grid0.N)⟩

variable {m}

section Results
variable {T : Dev nD → Track Ideal} {r : PUnit × MemSt nD τ sig (Elt Ideal)}
  (h : Pipeline.RDat.FramePost (cfgs 0) (fun c => rdat m c (follow (given m c))) (V m) r)
include h

/-- The first result at the end: the gradient of the activations, as the last point left it. -/
theorem result_dx : IsMat (n0 := 256) (n1 := 5120) (r.2.mem ((c.tc : Thread nD τ).loc main_v3_0)) (given m c).dx := fun a b => by
  obtain ⟨after, hL, e⟩ := Pipeline.RDat.FramePost.exists_exact h c
  have hw : (cfg0.win 7).WholeAt lastPt := by decide +kernel
  have hX := Dat.toRRel_leaves (dat := dat m c (follow (given m c))) (w := 7) rfl (hL 7 lastPt hw.1)
  refine (congrFun (e 7) (ix2 a b)).trans ?_
  refine (Pipeline.Dat.arrAt_emb_eq_after_last ((rdat m c (follow (given m c))).withAfter after) 7 lastPt hw (ix2 a b)).trans ?_
  exact hX rfl a b

/-- The third result at the end: the gradient of the gains, as the last point left it. -/
theorem result_dgain (b : Fin 5120) : (r.2.mem ((c.tc : Thread nD τ).loc main_v3_2) : Vec Ideal S1x5120 .f32) (ix2 (0 : Fin 1) b) = (given m c).dgain b.val := by
  obtain ⟨after, hL, e⟩ := Pipeline.RDat.FramePost.exists_exact h c
  have hw : (cfg0.win 9).WholeAt lastPt := by decide +kernel
  have hX := Dat.toRRel_leaves (dat := dat m c (follow (given m c))) (w := 9) rfl (hL 9 lastPt hw.1)
  refine (congrFun (e 9) (ix2 (0 : Fin 1) b)).trans ?_
  refine (Pipeline.Dat.arrAt_emb_eq_after_last ((rdat m c (follow (given m c))).withAfter after) 9 lastPt hw (ix2 (0 : Fin 1) b)).trans ?_
  exact hX b b.isLt

/-- The second result at the end: each block of 256 rows as its own point left it. -/
theorem result_dW (i : S5120x8960.Idx) : (r.2.mem ((c.tc : Thread nD τ).loc main_v3_1) : Vec Ideal S5120x8960 .f32) i = (given m c).dW (i 0).val (i 1).val := by
  obtain ⟨after, hL, e⟩ := Pipeline.RDat.FramePost.exists_exact h c
  refine (congrFun (e 8) i).trans ?_
  refine Pipeline.Dat.arrAt_forall_of_covers ((rdat m c (follow (given m c))).withAfter after) 8 (fun i v => v = (given m c).dW (i 0).val (i 1).val) (by decide +kernel) (fun t hf y => ?_) i
  have hX := Dat.toRRel_leaves (dat := dat m c (follow (given m c))) (w := 8) rfl (hL 8 t hf)
  blk_simp [idx t]
  have ht : t.val < 20 := Nat.lt_of_lt_of_eq t.isLt N_0
  have hy : (y : (⟨2, ![256, 8960]⟩ : Shape).Idx) = ix2 (y 0) (y 1) := eq_ix2 _
  refine (congrArg (after 8 t : Vec Ideal S256x8960 .f32) hy).trans ((hX (y 0) (y 1)).trans ?_)
  rw [Nat.mul_comm]

end Results

/-- An index of a single row. -/
theorem row_idx (i : S1x5120.Idx) : i = ix2 (0 : Fin 1) (i 1) :=
  (eq_ix2 i).trans (congrArg (fun k : Fin 1 => ix2 k (i 1)) (Subsingleton.elim (α := Fin 1) (i 0) 0))

/-- The three results, as arrays. -/
def dxArr (P : Problem) : Vec Ideal S256x5120 .bf16 := fun i => P.dx (i 0).val (i 1).val
/-- The problem's gradient of the weights, as an array. -/
def dwArr (P : Problem) : Vec Ideal S5120x8960 .f32 := fun i => P.dW (i 0).val (i 1).val
/-- The problem's gradient of the gains, as an array of one row. -/
def dgArr (P : Problem) : Vec Ideal S1x5120 .f32 := fun i => P.dgain (i 1).val

/-- Every execution of the kernel's program ends with the three results of the given problem, and the arguments as launched. -/
theorem run_values (ρ : Dev nD → PrngReg) :
    θ_run defs (onTc (τ := τ) (main (F := Ideal))) ⟨m, fun _ => 0, ρ⟩ (fun r => ∀ c : Dev nD,
      (r.2.mem ((c.tc : Thread nD τ).loc main_v3_0) = dxArr (given m c)
        ∧ r.2.mem ((c.tc : Thread nD τ).loc main_v3_1) = dwArr (given m c)
        ∧ r.2.mem ((c.tc : Thread nD τ).loc main_v3_2) = dgArr (given m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨⟨
      funext fun i => (congrArg (r.2.mem ((c.tc : Thread nD τ).loc main_v3_0) : Vec Ideal S256x5120 .bf16) (eq_ix2 i)).trans (result_dx c h.1 (i 0) (i 1)),
      funext fun i => result_dW c h.1 i,
      funext fun i => (congrArg (r.2.mem ((c.tc : Thread nD τ).loc main_v3_2) : Vec Ideal S1x5120 .f32)
        (row_idx i)).trans (result_dgain c h.1 ((i : S1x5120.Idx) 1))⟩,
    args_of m (fun c => follow (given m c)) r h.1 c⟩)
    (run_main m ρ (fun c => follow (given m c)) fun c => follow_good (given_fits m c))

end Cert.KernelIdeal.Body
-- ==== Proof.ReferenceIdeal.Terms.lean ====
module

public import proofs.«01_k».proof.Proof.Operands
public import proofs.«01_k».proof.Proof.Gen.ReferenceIdeal.Frame
public import Idealize.ShloMosaic.Lib.Pipeline.ValueKit
public import Idealize.ShloMosaic.Lib.Pointwise

@[expose] public section

set_option maxRecDepth 8192

noncomputable section

namespace Cert.ReferenceIdeal.Terms
open Cert.ReferenceIdeal Cert.ReferenceIdeal.Gen
open Idealize.ShloMosaic Idealize.ShloMosaic.TcCoe

/-! The reference's three results as terms in its arguments, a definition for each array that its text names. -/

section Defs
variable {F : FTy → Type} [FloatOps F]

/-- A number for each token, along the columns. -/
def perToken (a : Vec F S2x128 .f32) : FVec F S2x128x5120 .f32 :=
  broadcastInDim S2x128x5120 ![0, 1, 2] bcast_S2x128x1_S2x128x5120_0_1_2 (broadcastInDim S2x128x1 ![0, 1] bcast_S2x128_S2x128x1_0_1 a)

/-- A number for each column, along the tokens. -/
def perColumn (a : Vec F S5120 .f32) : FVec F S2x128x5120 .f32 :=
  broadcastInDim S2x128x5120 ![0, 1, 2] bcast_S1x1x5120_S2x128x5120_0_1_2 (broadcastInDim S1x1x5120 ![2] bcast_S5120_S1x1x5120_2 a)

/-- The normalized activations. -/
def n (x : Vec F S2x128x5120 .f32) (a1 a2 : Vec F S2x128 .f32) : FVec F S2x128x5120 .f32 := mulf (mulf x (perToken a1)) (perToken a2)

/-- The gradient of the weight. -/
def dW (n : FVec F S2x128x5120 .f32) (a3 : Vec F S5120 .f32) (a6 : Vec F S2x128x8960 .bf16) : FVec F S5120x8960 .f32 :=
  Host.dotGeneral dot_S2x128x5120_S2x128x8960_S5120x8960_01_01_2_2_n_n none (truncf .bf16 (mulf n (perColumn a3)) bitsLt_bf16_f32) a6

/-- The dequantized weight. -/
def wt (w : Vec F S5120x8960 .bf16) (a5 : Vec F S40x70 .f32) : FVec F S5120x8960 .bf16 :=
  shapeCast S5120x8960 (mulf (shapeCast S40x128x70x128 w shapeCasts_S5120x8960_S40x128x70x128)
    (broadcastInDim S40x128x70x128 ![0, 1, 2, 3] bcast_S40x1x70x1_S40x128x70x128_0_1_2_3
      (broadcastInDim S40x1x70x1 ![0, 2] bcast_S40x70_S40x1x70x1_0_2 (truncf .bf16 a5 bitsLt_bf16_f32)))) shapeCasts_S40x128x70x128_S5120x8960

/-- The gradient of the scaled activations. -/
def dxhat (a6 : Vec F S2x128x8960 .bf16) (wt : FVec F S5120x8960 .bf16) : FVec F S2x128x5120 .f32 :=
  Host.dotGeneral dot_S2x128x8960_S5120x8960_S2x128x5120_2_1_01_0_n_n none a6 wt

/-- The gradient of the gain. -/
def dgain (dxhat n : FVec F S2x128x5120 .f32) : FVec F S1x5120 .f32 :=
  broadcastInDim S1x5120 ![1] bcast_S5120_S1x5120_1 (Host.reduceAdd (mulf dxhat n) (constant S_ .f32 0x00000000#32) reducesTo_S2x128x5120_S5120_d0_1 h_S_)

/-- The mean over the columns. -/
def mean (gn : FVec F S2x128x5120 .f32) : FVec F S2x128x1 .f32 :=
  Host.divf (broadcastInDim S2x128x1 ![0, 1] bcast_S2x128_S2x128x1_0_1 (Host.reduceAdd gn (constant S_ .f32 0x00000000#32) reducesTo_S2x128x5120_S2x128_d2 h_S_))
    (broadcastInDim S2x128x1 ![] bcast_S_S2x128x1 (constant S_ .f32 0x45A00000#32))

/-- The gradient of the activations. -/
def dx (g n : FVec F S2x128x5120 .f32) (a2 : Vec F S2x128 .f32) : FVec F S256x5120 .bf16 :=
  shapeCast S256x5120 (truncf .bf16 (mulf (perToken a2)
    (subf g (mulf n (broadcastInDim S2x128x5120 ![0, 1, 2] bcast_S2x128x1_S2x128x5120_0_1_2 (mean (mulf g n)))))) bitsLt_bf16_f32) shapeCasts_S2x128x5120_S256x5120

end Defs

/-! ## Their entries, over the extended reals, are those of the problem -/

section Entries
open Cert.Mat

/-- Both batch entries' positions are the 256 tokens. -/
theorem sum_tokens (g : ℕ → EReal) : ∑ b : Fin 2, ∑ s : Fin 128, g (128 * b.val + s.val) = ∑ r ∈ Finset.range 256, g r := by
  rw [Fin.sum_univ_two, show 256 = 128 + 128 from rfl, Finset.sum_range_add, Finset.sum_range, Finset.sum_range]
  refine congrArg₂ (· + ·) (Finset.sum_congr rfl fun s _ => congrArg g ?_) (Finset.sum_congr rfl fun s _ => congrArg g ?_)
  · show 128 * 0 + s.val = s.val; omega
  · show 128 * 1 + s.val = 128 + s.val; omega

/-- A sum over both token axes. -/
theorem reduce_tokens (h : S2x128x5120.ReducesTo [0, 1] S5120) (v : S2x128x5120.Idx → EReal) (init : EReal) (d : Fin 5120) :
    Ideal.hostReduceAdd h v init (ix1 d) = init + ∑ b : Fin 2, ∑ s : Fin 128, v (ix3 b s d) := by
  unfold Ideal.hostReduceAdd
  rw [Finset.sum_filter, sum_idx3]
  refine congrArg (init + ·) (Finset.sum_congr rfl fun b _ => Finset.sum_congr rfl fun s _ => ?_)
  rw [Finset.sum_eq_single d]
  · refine if_pos (funext fun a => ?_)
    match a with
    | ⟨0, _⟩ => rfl
  · intro e _ hne
    exact if_neg fun h' => hne (Fin.ext (congrArg Fin.val (congrFun h' 0)))
  · intro h'
    exact absurd (Finset.mem_univ _) h'

/-- `X` has, at position `s` of batch entry `b`, the entries `f` of token `128 * b + s`. -/
def IsTok {n2 : ℕ} (X : (⟨3, ![2, 128, n2]⟩ : Shape).Idx → EReal) (f : ℕ → ℕ → EReal) : Prop :=
  ∀ (b : Fin 2) (s : Fin 128) (d : Fin n2), X (ix3 b s d) = f (128 * b.val + s.val) d.val

variable (a0 : S2x128x5120.Idx → EReal) (a1 a2 : Vec Ideal S2x128 .f32) (a3 : Vec Ideal S5120 .f32) (a4 : S5120x8960.Idx → EReal)
  (a5 : Vec Ideal S40x70 .f32) (a6 : Vec Ideal S2x128x8960 .bf16)

/-- A value per token does not depend on the column. -/
theorem perToken_apply (a : Vec Ideal S2x128 .f32) (b : Fin 2) (s : Fin 128) (d : Fin 5120) : perToken a (ix3 b s d) = a (ix2 b s) := by
  simp only [perToken, pointwise]
  simp

/-- A value per column does not depend on the token. -/
theorem perColumn_apply (a : Vec Ideal S5120 .f32) (b : Fin 2) (s : Fin 128) (d : Fin 5120) : perColumn a (ix3 b s d) = a (ix1 d) := by
  simp only [perColumn, pointwise]
  simp

/-- An operand with two token axes, at a token. -/
theorem tok_eq {n2 : ℕ} (X : (⟨3, ![2, 128, n2]⟩ : Shape).Idx → EReal) (b : Fin 2) (s : Fin 128) (d : Fin n2) :
    X (ix3 b s d) = at3 X ((128 * b.val + s.val) / 128) ((128 * b.val + s.val) % 128) d.val := by
  rw [show (128 * b.val + s.val) / 128 = b.val by omega, show (128 * b.val + s.val) % 128 = s.val by omega, at3_eq]

/-- An operand with one value per token, at a token. -/
theorem tok2_eq (X : (⟨2, ![2, 128]⟩ : Shape).Idx → EReal) (b : Fin 2) (s : Fin 128) :
    X (ix2 b s) = at2 X ((128 * b.val + s.val) / 128) ((128 * b.val + s.val) % 128) := by
  rw [show (128 * b.val + s.val) / 128 = b.val by omega, show (128 * b.val + s.val) % 128 = s.val by omega, at2_fin]

/-- The normalized activations are the problem's. -/
theorem n_tok : IsTok (n (F := Ideal) a0 a1 a2) (problem a0 a1 a2 a3 a4 a5 a6).n := fun b s d => by
  simp only [n, pointwise]
  rw [perToken_apply, perToken_apply, tok_eq a0, tok2_eq a1, tok2_eq a2]
  rfl

/-- The incoming gradient is the problem's. -/
theorem dq_tok : IsTok a6 (problem a0 a1 a2 a3 a4 a5 a6).dq := fun b s d => tok_eq a6 b s d

variable {nn dd : FVec Ideal S2x128x5120 .f32}

/-- The gradient of the weights is the problem's. -/
theorem dW_mat (hn : IsTok nn (problem a0 a1 a2 a3 a4 a5 a6).n) : IsMat (n0 := 5120) (n1 := 8960) (dW nn a3 a6) (problem a0 a1 a2 a3 a4 a5 a6).dW := fun d j => by
  simp only [dW, pointwise]
  rw [zero_add]
  refine Eq.trans ?_ (sum_tokens fun r => (problem a0 a1 a2 a3 a4 a5 a6).xhat r d.val * (problem a0 a1 a2 a3 a4 a5 a6).dq r j.val)
  refine Finset.sum_congr rfl fun b _ => Finset.sum_congr rfl fun s _ => ?_
  rw [hn b s d, perColumn_apply, tok_eq a6 b s j, ← at1_eq a3 d]
  rfl

/-- The dequantized weights are the problem's. -/
theorem wt_mat : IsMat (n0 := 5120) (n1 := 8960) (wt (F := Ideal) a4 a5) (problem a0 a1 a2 a3 a4 a5 a6).wt := fun d j => by
  simp only [wt, pointwise]
  refine congrArg₂ (· * ·) (at2_fin a4 d j).symm ?_
  exact (at2_fin a5 (⟨d.val / 128, by omega⟩ : Fin 40) (⟨j.val / 128, by omega⟩ : Fin 70)).symm

/-- The gradient of the scaled activations is the problem's. -/
theorem dxhat_tok {w : FVec Ideal S5120x8960 .bf16} (hw : IsMat (n0 := 5120) (n1 := 8960) w (problem a0 a1 a2 a3 a4 a5 a6).wt) :
    IsTok (dxhat a6 w) (problem a0 a1 a2 a3 a4 a5 a6).dxhat := fun b s d => by
  simp only [dxhat, pointwise]
  rw [zero_add]
  refine Eq.trans ?_ (Finset.sum_range (fun j => (problem a0 a1 a2 a3 a4 a5 a6).dq (128 * b.val + s.val) j * (problem a0 a1 a2 a3 a4 a5 a6).wt d.val j)).symm
  refine Finset.sum_congr rfl fun j _ => ?_
  rw [hw d j, tok_eq a6 b s j]
  rfl

variable (hn : IsTok nn (problem a0 a1 a2 a3 a4 a5 a6).n) (hd : IsTok dd (problem a0 a1 a2 a3 a4 a5 a6).dxhat)
include hn hd

/-- The gradient of the gains is the problem's. -/
theorem dgain_apply (r : Fin 1) (d : Fin 5120) : dgain dd nn (ix2 r d) = (problem a0 a1 a2 a3 a4 a5 a6).dgain d.val := by
  simp only [dgain, pointwise]
  refine (reduce_tokens reducesTo_S2x128x5120_S5120_d0_1 (mulf dd nn) 0 d).trans ?_
  rw [zero_add]
  refine Eq.trans ?_ (sum_tokens fun r => (problem a0 a1 a2 a3 a4 a5 a6).dxhat r d.val * (problem a0 a1 a2 a3 a4 a5 a6).n r d.val)
  refine Finset.sum_congr rfl fun b _ => Finset.sum_congr rfl fun s _ => ?_
  simp only [pointwise]
  rw [hn b s d, hd b s d]

/-- The gradient times the gains, at a token. -/
theorem gain_tok : IsTok (mulf dd (perColumn a3)) fun r d => (problem a0 a1 a2 a3 a4 a5 a6).dxhat r d * (problem a0 a1 a2 a3 a4 a5 a6).gain d := fun b s d => by
  simp only [pointwise]
  rw [hd b s d, perColumn_apply, ← at1_eq a3 d]
  rfl

omit hn hd in
/-- The number of columns. -/
theorem columns_eq : Ideal.ofBits .f32 0x45A00000#32 = ((5120 : ℝ) : EReal) := by
  simp [Ideal.ofBits, Ideal.ieee, -EReal.coe_mul]
  norm_num

/-- The mean over a token's columns is the problem's: dividing by the row length is multiplying by its reciprocal. -/
theorem mean_apply (b : Fin 2) (s : Fin 128) (r : Fin 1) :
    mean (mulf (mulf dd (perColumn a3)) nn) (ix3 b s r) = (problem a0 a1 a2 a3 a4 a5 a6).mean (128 * b.val + s.val) := by
  simp only [mean, pointwise]
  rw [zero_add, columns_eq, Ideal.div_coe (by norm_num : (5120 : ℝ) ≠ 0)]
  refine congrArg₂ (· * ·) ?_ ?_
  · refine Eq.trans ?_ (Finset.sum_range (fun d => (problem a0 a1 a2 a3 a4 a5 a6).gn (128 * b.val + s.val) d)).symm
    refine Finset.sum_congr rfl fun d _ => ?_
    show dd (ix3 b s d) * perColumn a3 (ix3 b s d) * nn (ix3 b s d) = _
    rw [hn b s d, hd b s d, perColumn_apply, ← at1_eq a3 d]
    rfl
  · rfl

/-- The gradient of the activations is the problem's. -/
theorem dx_mat : IsMat (n0 := 256) (n1 := 5120) (dx (mulf dd (perColumn a3)) nn a2) (problem a0 a1 a2 a3 a4 a5 a6).dx := fun r d => by
  have hr : r.val = 128 * (r.val / 128) + r.val % 128 := by omega
  refine (flatten_apply _ shapeCasts_S2x128x5120_S256x5120 r d).trans ?_
  generalize hb : (⟨r.val / 128, by omega⟩ : Fin 2) = b
  generalize hs : (⟨r.val % 128, by omega⟩ : Fin 128) = s
  have hr : r.val = 128 * b.val + s.val := by rw [← hb, ← hs]; exact hr
  rw [hr]
  simp only [pointwise]
  have hm := mean_apply a0 a1 a2 a3 a4 a5 a6 hn hd b s 0
  refine congrArg₂ (· * ·) ((perToken_apply a2 b s d).trans (tok2_eq a2 b s)) (congrArg₂ (· - ·) (gain_tok a0 a1 a2 a3 a4 a5 a6 hn hd b s d) (congrArg₂ (· * ·) (hn b s d) hm))

end Entries

end Cert.ReferenceIdeal.Terms
-- ==== Proof.ReferenceIdeal.Run.lean ====
module

public import proofs.«01_k».proof.Proof.ReferenceIdeal.Terms

@[expose] public section

set_option maxRecDepth 8192

noncomputable section

namespace Cert.ReferenceIdeal.Run
open Cert.ReferenceIdeal Cert.ReferenceIdeal.Gen Cert.Mat
open Idealize.ShloMosaic Idealize.ShloMosaic.TcCoe Idealize.ShloMosaic.StableHlo
open Idealize.SL.Sem

/-! The reference's run: its three results are those of the problem that its arguments pose. -/

section Tail
variable (W : Valuation τ sig (Elt Ideal))

/-- The normalized activations that the host operations after the decoding compute. -/
def tailN : FVec Ideal S2x128x5120 .f32 :=
  Terms.n (W (Proc.devRef .tc main_v0_0)) (W (Proc.devRef .tc main_arg1)) (W (Proc.devRef .tc main_arg2))

/-- The gradient of the scaled activations that they compute. -/
def tailGrad : FVec Ideal S2x128x5120 .f32 :=
  Terms.dxhat (W (Proc.devRef .tc main_arg6)) (Terms.wt (W (Proc.devRef .tc main_v0_1)) (W (Proc.devRef .tc main_arg5)))

/-- The host operations leave the gradient of the weights. -/
theorem tail_dW : StableHlo.after hostOps1 W (Proc.devRef .tc main_v11) = Terms.dW (tailN W) (W (Proc.devRef .tc main_arg3)) (W (Proc.devRef .tc main_arg6)) := by
  dsimp only [hostOps1]
  after_results_simp
  rfl

/-- They leave the gradient of the gains. -/
theorem tail_dgain : StableHlo.after hostOps1 W (Proc.devRef .tc main_v37) = Terms.dgain (tailGrad W) (tailN W) := by
  dsimp only [hostOps1]
  after_results_simp
  rfl

/-- They leave the gradient of the activations. -/
theorem tail_dx : StableHlo.after hostOps1 W (Proc.devRef .tc main_v36)
    = Terms.dx (mulf (tailGrad W) (Terms.perColumn (W (Proc.devRef .tc main_arg3)))) (tailN W) (W (Proc.devRef .tc main_arg2)) := by
  dsimp only [hostOps1]
  after_results_simp
  rfl

end Tail

variable (m : (ℓ : Loc nD τ sig) → Buf (Elt Ideal) ℓ) (ρ : Dev nD → PrngReg) (c : Dev nD)

/-- The one point of the decoding takes the whole arrays. -/
theorem idx : ∀ t : Fin cfg0.N, win0_0.index t = ![0, 0, 0] ∧ win0_1.index t = ![0, 0] :=
  (by decide +kernel : ∀ t : Fin grid0.N, _)

/-- The decoded activations are the codes. -/
theorem codes : (dats m 0 c).arrAt 2 cfg0.N = (m ((c : Thread nD τ).loc main_arg0) : S2x128x5120.Idx → EReal) := by
  refine (dats m 0 c).arrAt_eq_of_after_last 2 t0_0 (by decide +kernel) _ fun j => ?_
  have e : iblk m c 0 t0_0 = m ((c : Thread nD τ).loc main_arg0) := by blk_ext! [iblk, V, idx t0_0]
  blk_simp
  rw [after0_2]
  unfold out0_2
  frame_out
  rw [e]
  rfl

/-- The decoded weights are the codes. -/
theorem weights : (dats m 0 c).arrAt 3 cfg0.N = (m ((c : Thread nD τ).loc main_arg4) : S5120x8960.Idx → EReal) := by
  refine (dats m 0 c).arrAt_eq_of_after_last 3 t0_0 (by decide +kernel) _ fun j => ?_
  have e : iblk m c 1 t0_0 = m ((c : Thread nD τ).loc main_arg4) := by blk_ext! [iblk, V, idx t0_0]
  blk_simp
  rw [after0_3]
  unfold out0_3
  frame_out
  rw [e]
  rfl

/-- What the host operations find. -/
def found : Valuation τ sig (Elt Ideal) := Pipeline.withArrays (cfgs 0).spec c (V0 m c) fun w => (dats m 0 c).arrAt w (cfgs 0).N

/-- The host operations find every other buffer as launched. -/
theorem found_of_ne (b : Ref sig .tc) (hb : ∀ w, Pipeline.arrRef spec0 w ≠ b) : found m c (Proc.devRef .tc b) = m ((c : Thread nD τ).loc b) :=
  Pipeline.withArrays_of_ne _ c (V0 m c) _ b hb

/-- They find the decoded activations. -/
theorem found_codes : found m c (Proc.devRef .tc main_v0_0) = (m ((c : Thread nD τ).loc main_arg0) : S2x128x5120.Idx → EReal) :=
  (Pipeline.withArrays_arr spec0 launch0.win.arr_inj c (V0 m c) _ 2).trans (codes m c)

/-- They find the decoded weights. -/
theorem found_weights : found m c (Proc.devRef .tc main_v0_1) = (m ((c : Thread nD τ).loc main_arg4) : S5120x8960.Idx → EReal) :=
  (Pipeline.withArrays_arr spec0 launch0.win.arr_inj c (V0 m c) _ 3).trans (weights m c)

/-- The problem that the launched arguments pose. -/
def given : Problem :=
  problem (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The normalized activations are those of the given problem. -/
theorem n_tok : Terms.IsTok (tailN (found m c)) (given m c).n := by
  unfold tailN
  rw [found_codes, found_of_ne m c main_arg1 (by decide), found_of_ne m c main_arg2 (by decide)]
  exact Terms.n_tok _ _ _ _ _ _ _

/-- The gradient of the scaled activations is that of the given problem. -/
theorem grad_tok : Terms.IsTok (tailGrad (found m c)) (given m c).dxhat := by
  unfold tailGrad
  rw [found_weights, found_of_ne m c main_arg5 (by decide), found_of_ne m c main_arg6 (by decide)]
  exact Terms.dxhat_tok _ _ _ _ _ _ _ (Terms.wt_mat _ _ _ _ _ _ _)

/-- The gradient of the weights is that of the given problem. -/
theorem dW_mat : IsMat (n0 := 5120) (n1 := 8960) (Pipeline.afterTail₀ cfgs (dats m) 0 (V0 m) [hostOps1] c main_v11) (given m c).dW := by
  show IsMat (n0 := 5120) (n1 := 8960) (StableHlo.after hostOps1 (found m c) (Proc.devRef .tc main_v11)) _
  rw [tail_dW, found_of_ne m c main_arg3 (by decide), found_of_ne m c main_arg6 (by decide)]
  exact Terms.dW_mat _ _ _ _ _ _ _ (n_tok m c)

/-- The gradient of the gains is that of the given problem. -/
theorem dgain_apply (r : Fin 1) (d : Fin 5120) :
    (Pipeline.afterTail₀ cfgs (dats m) 0 (V0 m) [hostOps1] c main_v37 : Vec Ideal S1x5120 .f32) (ix2 r d) = (given m c).dgain d.val := by
  show (StableHlo.after hostOps1 (found m c) (Proc.devRef .tc main_v37) : Vec Ideal S1x5120 .f32) _ = _
  rw [tail_dgain]
  exact Terms.dgain_apply _ _ _ _ _ _ _ (n_tok m c) (grad_tok m c) r d

/-- The gradient of the activations is that of the given problem. -/
theorem dx_mat : IsMat (n0 := 256) (n1 := 5120) (Pipeline.afterTail₀ cfgs (dats m) 0 (V0 m) [hostOps1] c main_v36) (given m c).dx := by
  show IsMat (n0 := 256) (n1 := 5120) (StableHlo.after hostOps1 (found m c) (Proc.devRef .tc main_v36)) _
  rw [tail_dx, found_of_ne m c main_arg3 (by decide), found_of_ne m c main_arg2 (by decide)]
  exact Terms.dx_mat _ _ _ _ _ _ _ (n_tok m c) (grad_tok m c)

/-- Every execution of the reference ends with the three results of the given problem. -/
theorem run_values : θ_run defs (onTc (τ := τ) (main (F := Ideal))) ⟨m, fun _ => 0, ρ⟩ (fun r => ∀ c : Dev nD,
      IsMat (n0 := 256) (n1 := 5120) (r.2.mem ((c.tc : Thread nD τ).loc main_v36)) (given m c).dx
      ∧ IsMat (n0 := 5120) (n1 := 8960) (r.2.mem ((c.tc : Thread nD τ).loc main_v11)) (given m c).dW
      ∧ IsMat (n0 := 1) (n1 := 5120) (r.2.mem ((c.tc : Thread nD τ).loc main_v37)) fun _ d => (given m c).dgain d) :=
  (θ_run defs _ _).mono (fun r h c => by
    have e36 := (h c).2 main_v36 (Pipeline.mem_restRefs_of main_v36 (by decide) (by decide))
    have e11 := (h c).2 main_v11 (Pipeline.mem_restRefs_of main_v11 (by decide) (by decide))
    have e37 := (h c).2 main_v37 (Pipeline.mem_restRefs_of main_v37 (by decide) (by decide))
    exact ⟨fun a b => (congrFun e36 (ix2 a b)).trans (dx_mat m c a b), fun a b => (congrFun e11 (ix2 a b)).trans (dW_mat m c a b),
      fun a b => (congrFun e37 (ix2 a b)).trans (dgain_apply m c a b)⟩) (run_main m ρ)

end Cert.ReferenceIdeal.Run
-- ==== Proof.lean ====
module

public import proofs.«01_k».proof.Defs
public import proofs.«01_k».proof.Proof.Kernel.Sound
public import proofs.«01_k».proof.Proof.KernelIdeal.Sound
public import proofs.«01_k».proof.Proof.KernelIdeal.Blocks
public import proofs.«01_k».proof.Proof.ReferenceIdeal.Run
public import Idealize.ShloMosaic.Adequacy
public import Idealize.ShloMosaic.Init

@[expose] public section

set_option maxRecDepth 8192

noncomputable section

namespace Cert.Proof

open Idealize.ShloMosaic Idealize.SL.Sem

/-- The one rewrite of the idealized kernel: the named constant is the exact reciprocal of the row length. -/
theorem preserves : Cert.preserves_Kernel_KernelIdeal :=
  IdealRules.named_const.statement Cert.KernelIdeal.κ "inv_d" .f32 0x394CCCCD#32 ((1 / 5120 : ℝ) : EReal) rfl

section Algebraic
variable {m : (ℓ : Loc KernelIdeal.nD KernelIdeal.τ KernelIdeal.sig) → Buf (Elt Ideal) ℓ}
  {m' : (ℓ : Loc ReferenceIdeal.nD ReferenceIdeal.τ ReferenceIdeal.sig) → Buf (Elt Ideal) ℓ}

/-- Equal arguments pose the same problem. -/
theorem given_eq (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6)) :
    ReferenceIdeal.Run.given m' c = KernelIdeal.Body.given m c := by
  unfold ReferenceIdeal.Run.given KernelIdeal.Body.given
  rw [h0, h1, h2, h3, h4, h5, h6]

/-- A matrix is known by its entries. -/
theorem eq_of_isMat {n0 n1 : ℕ} {X : (⟨2, ![n0, n1]⟩ : Shape).Idx → EReal} {f : ℕ → ℕ → EReal} (h : Mat.IsMat X f) :
    X = fun i => f (i 0).val (i 1).val :=
  funext fun i => (congrArg X (eq_ix2 i)).trans (h (i 0) (i 1))

/-- From equal arguments the idealized kernel and the idealized reference end with equal results: the gradient of the
    activations, the gradient of the weights and the gradient of the gains of the problem that the arguments pose. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => KernelIdeal.Body.dxArr (KernelIdeal.Body.given m c), fun c => KernelIdeal.Body.dwArr (KernelIdeal.Body.given m c),
    fun c => KernelIdeal.Body.dgArr (KernelIdeal.Body.given m c), ?_, ?_⟩
  · exact (θ_run _ _ _).mono (fun r h c => ⟨(h c).1.1, (h c).1.2.1, (h c).1.2.2, (h c).2⟩) (KernelIdeal.Body.run_values g)
  · refine (θ_run _ _ _).mono (fun r h c => ?_) (θ_run_and (ReferenceIdeal.Run.run_values m' g') (ReferenceIdeal.Gen.unchanged m' g'))
    obtain ⟨hx, hw, hg⟩ := h.1 c
    obtain ⟨h0, h1, h2, h3, h4, h5, h6⟩ := hargs c
    rw [given_eq c h0 h1 h2 h3 h4 h5 h6] at hx hw hg
    exact ⟨eq_of_isMat hx, eq_of_isMat hw, (eq_of_isMat (n0 := 1) (n1 := 5120) hg).trans rfl, h.2 c⟩

end Algebraic

theorem claim : Cert.Claim :=
  ⟨Cert.Kernel.Gen.facts, Cert.KernelIdeal.Gen.facts, Cert.ReferenceIdeal.Gen.facts,
    fun m ρ _ => Cert.Kernel.Body.frame m ρ, fun m ρ _ => Cert.KernelIdeal.Body.frame m ρ,
    fun m ρ _ => Cert.ReferenceIdeal.Gen.frame m ρ, preserves, algebraic⟩

end Cert.Proof

end
